-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S_ : Shape := ⟨0, ![]⟩
abbrev S2048x2048 : Shape := ⟨2, ![2048, 2048]⟩
abbrev S512x2048 : Shape := ⟨2, ![512, 2048]⟩
abbrev S512x512 : Shape := ⟨2, ![512, 512]⟩
abbrev S1792x2048 : Shape := ⟨2, ![1792, 2048]⟩
abbrev S18 : Shape := ⟨1, ![18]⟩
abbrev S1 : Shape := ⟨1, ![1]⟩
abbrev S384x2048 : Shape := ⟨2, ![384, 2048]⟩
abbrev S320x2048 : Shape := ⟨2, ![320, 2048]⟩
abbrev S192x2048 : Shape := ⟨2, ![192, 2048]⟩
abbrev S160x2048 : Shape := ⟨2, ![160, 2048]⟩
abbrev S96x2048 : Shape := ⟨2, ![96, 2048]⟩
abbrev S80x2048 : Shape := ⟨2, ![80, 2048]⟩

abbrev nBuf : Space → Nat
  | .hbm => 37
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2048x2048, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2048x2048, .f32⟩
  | .hbm, ⟨35, _⟩ => ⟨S2048x2048, .f32⟩
  | .hbm, ⟨36, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | .local _ .vmem, ⟨6, _⟩ => ⟨S2048x2048, .f32⟩
  | .local _ .vmem, ⟨7, _⟩ => ⟨S2048x2048, .f32⟩
  | .local _ .vmem, ⟨8, _⟩ => ⟨S1792x2048, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_c_8 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_v19 : Ref sig .tc := ⟨.hbm, 32, rfl⟩
abbrev main_c_11 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev barrier0 : Sem sig := 0

abbrev nD : Nat := 8
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

def k1_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c4_i32_5 : BitVec 32 := 4#32
  let v11 : BitVec 32 := Scalar.muli v10 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k1_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_12 : BitVec 32 := 2#32
  let v20 : BitVec 32 := Scalar.muli v17 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k1_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_14 v8
  let c1_i32_19 : BitVec 32 := 1#32
  let v29 : BitVec 32 := Scalar.muli v24 c1_i32_19
  let v30 : BitVec 32 := Scalar.addi v28 v29
  v30.toNat
def k1_off1 (d0 : Dev nD) : Fin 2 → Nat :=
  let c0_i32_23 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let c384_i32_22 : BitVec 32 := 384#32
  let v34 : BitVec 32 := Scalar.muli v33 c384_i32_22
  let v35 : BitVec 32 := Scalar.addi c0_i32_23 v34
  let c0_i32_54 : BitVec 32 := 0#32
  ![v35.toNat, 0]
def k1_dev4 (d0 : Dev nD) : Nat :=
  let c0_i32_49 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_45 v2
  let c4_i32_48 : BitVec 32 := 4#32
  let v77 : BitVec 32 := Scalar.muli v76 c4_i32_48
  let v78 : BitVec 32 := Scalar.addi c0_i32_49 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v79 : BitVec 32 := Scalar.muli v5 c2_i32_50
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v81 : BitVec 32 := Scalar.muli v8 c1_i32_51
  let v82 : BitVec 32 := Scalar.addi v80 v81
  v82.toNat
def k1_off2 (d0 : Dev nD) (c768_i32_30 : BitVec 32) (c2_i32_1 : BitVec 32) : Fin 2 → Nat :=
  let c1_i32_28 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v48 : BitVec 32 := Scalar.subi c1_i32_28 v5
  let c320_i32_29 : BitVec 32 := 320#32
  let v49 : BitVec 32 := Scalar.muli v48 c320_i32_29
  let v50 : BitVec 32 := Scalar.addi c768_i32_30 v49
  let c0_i32_63 : BitVec 32 := 0#32
  ![v50.toNat, 0]
def k1_off2_at (r : Fin 2) : BitVec 32 × BitVec 32 :=
  if r.val < 1 then
    (768#32, 2#32)
  else
    (1408#32, 1#32)
def k1_dev5 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v90 : BitVec 32 := Scalar.muli v2 c4_i32_58
  let v91 : BitVec 32 := Scalar.addi c0_i32_59 v90
  let c1_i32_55 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v89 : BitVec 32 := Scalar.subi c1_i32_55 v5
  let c2_i32_60 : BitVec 32 := 2#32
  let v92 : BitVec 32 := Scalar.muli v89 c2_i32_60
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v94 : BitVec 32 := Scalar.muli v8 c1_i32_61
  let v95 : BitVec 32 := Scalar.addi v93 v94
  v95.toNat
def k1_dev6 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v103 : BitVec 32 := Scalar.muli v2 c4_i32_66
  let v104 : BitVec 32 := Scalar.addi c0_i32_67 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v105 : BitVec 32 := Scalar.muli v5 c2_i32_68
  let v106 : BitVec 32 := Scalar.addi v104 v105
  let c1_i32_64 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v102 : BitVec 32 := Scalar.subi c1_i32_64 v8
  let c1_i32_69 : BitVec 32 := 1#32
  let v107 : BitVec 32 := Scalar.muli v102 c1_i32_69
  let v108 : BitVec 32 := Scalar.addi v106 v107
  v108.toNat
def k1_off3 (d0 : Dev nD) : Fin 2 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c384_i32 : BitVec 32 := 384#32
  let v31 : BitVec 32 := Scalar.muli v2 c384_i32
  let v32 : BitVec 32 := Scalar.addi c0_i32_20 v31
  let v129 : Index := Scalar.indexCast v32
  let c0 : Index := 0#32
  ![v129.toNat, 0]
def k1_off4 (d0 : Dev nD) (c768_i32 : BitVec 32) (c2_i32_1 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c320_i32 : BitVec 32 := 320#32
  let v46 : BitVec 32 := Scalar.muli v5 c320_i32
  let v47 : BitVec 32 := Scalar.addi c768_i32 v46
  let v150 : Index := Scalar.indexCast v47
  let c0_105 : Index := 0#32
  ![v150.toNat, 0]
def k1_off4_at (r : Fin 2) : BitVec 32 × BitVec 32 :=
  if r.val < 1 then
    (768#32, 2#32)
  else
    (1408#32, 1#32)
def k1_off5 (d0 : Dev nD) : Fin 2 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c384_i32 : BitVec 32 := 384#32
  let v31 : BitVec 32 := Scalar.muli v2 c384_i32
  let v32 : BitVec 32 := Scalar.addi c0_i32_20 v31
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_24 v5
  let c192_i32_25 : BitVec 32 := 192#32
  let v39 : BitVec 32 := Scalar.muli v38 c192_i32_25
  let v40 : BitVec 32 := Scalar.addi v32 v39
  let c0_i32_135 : BitVec 32 := 0#32
  ![v40.toNat, 0]
def k1_dev7 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v179 : BitVec 32 := Scalar.muli v2 c4_i32_129
  let v180 : BitVec 32 := Scalar.addi c0_i32_130 v179
  let c1_i32_126 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v178 : BitVec 32 := Scalar.subi c1_i32_126 v5
  let c2_i32_131 : BitVec 32 := 2#32
  let v181 : BitVec 32 := Scalar.muli v178 c2_i32_131
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v183 : BitVec 32 := Scalar.muli v8 c1_i32_132
  let v184 : BitVec 32 := Scalar.addi v182 v183
  v184.toNat
def k1_off6 (d0 : Dev nD) (c768_i32 : BitVec 32) (c2_i32_1 : BitVec 32) (c1_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c320_i32 : BitVec 32 := 320#32
  let v46 : BitVec 32 := Scalar.muli v5 c320_i32
  let v47 : BitVec 32 := Scalar.addi c768_i32 v46
  let c1_i32_31 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v53 : BitVec 32 := Scalar.subi c1_i32_31 v8
  let c160_i32_32 : BitVec 32 := 160#32
  let v54 : BitVec 32 := Scalar.muli v53 c160_i32_32
  let v55 : BitVec 32 := Scalar.addi v47 v54
  let c0_i32_144 : BitVec 32 := 0#32
  ![v55.toNat, 0]
def k1_off6_at (r : Fin 2) : BitVec 32 × BitVec 32 × BitVec 32 :=
  if r.val < 1 then
    (768#32, 2#32, 1#32)
  else
    (1408#32, 1#32, 4#32)
def k1_dev8 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v192 : BitVec 32 := Scalar.muli v2 c4_i32_139
  let v193 : BitVec 32 := Scalar.addi c0_i32_140 v192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v194 : BitVec 32 := Scalar.muli v5 c2_i32_141
  let v195 : BitVec 32 := Scalar.addi v193 v194
  let c1_i32_136 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v191 : BitVec 32 := Scalar.subi c1_i32_136 v8
  let c1_i32_142 : BitVec 32 := 1#32
  let v196 : BitVec 32 := Scalar.muli v191 c1_i32_142
  let v197 : BitVec 32 := Scalar.addi v195 v196
  v197.toNat
def k1_dev9 (d0 : Dev nD) : Nat :=
  let c0_i32_148 : BitVec 32 := 0#32
  let c1_i32_145 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v204 : BitVec 32 := Scalar.subi c1_i32_145 v2
  let c4_i32_147 : BitVec 32 := 4#32
  let v205 : BitVec 32 := Scalar.muli v204 c4_i32_147
  let v206 : BitVec 32 := Scalar.addi c0_i32_148 v205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v207 : BitVec 32 := Scalar.muli v5 c2_i32_149
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v209 : BitVec 32 := Scalar.muli v8 c1_i32_150
  let v210 : BitVec 32 := Scalar.addi v208 v209
  v210.toNat
def k1_off7 (d0 : Dev nD) : Fin 2 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c384_i32 : BitVec 32 := 384#32
  let v31 : BitVec 32 := Scalar.muli v2 c384_i32
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c192_i32 : BitVec 32 := 192#32
  let v36 : BitVec 32 := Scalar.muli v5 c192_i32
  let v37 : BitVec 32 := Scalar.addi v32 v36
  let v231 : Index := Scalar.indexCast v37
  let c0_168 : Index := 0#32
  ![v231.toNat, 0]
def k1_off8 (d0 : Dev nD) (c768_i32 : BitVec 32) (c2_i32_1 : BitVec 32) (c1_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c320_i32 : BitVec 32 := 320#32
  let v46 : BitVec 32 := Scalar.muli v5 c320_i32
  let v47 : BitVec 32 := Scalar.addi c768_i32 v46
  let v6 : BitVec 32 := Dev.word d0
  let v7 : BitVec 32 := Scalar.divsi v6 c1_i32
  let c2_i32_2 : BitVec 32 := 2#32
  let v8 : BitVec 32 := Scalar.remsi v7 c2_i32_2
  let c160_i32 : BitVec 32 := 160#32
  let v51 : BitVec 32 := Scalar.muli v8 c160_i32
  let v52 : BitVec 32 := Scalar.addi v47 v51
  let v252 : Index := Scalar.indexCast v52
  let c0_186 : Index := 0#32
  ![v252.toNat, 0]
def k1_off8_at (r : Fin 2) : BitVec 32 × BitVec 32 × BitVec 32 :=
  if r.val < 1 then
    (768#32, 2#32, 1#32)
  else
    (1408#32, 1#32, 4#32)
def k1_off9 (d0 : Dev nD) : Fin 2 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c384_i32 : BitVec 32 := 384#32
  let v31 : BitVec 32 := Scalar.muli v2 c384_i32
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c192_i32 : BitVec 32 := 192#32
  let v36 : BitVec 32 := Scalar.muli v5 c192_i32
  let v37 : BitVec 32 := Scalar.addi v32 v36
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_26 v8
  let c96_i32_27 : BitVec 32 := 96#32
  let v44 : BitVec 32 := Scalar.muli v43 c96_i32_27
  let v45 : BitVec 32 := Scalar.addi v37 v44
  let c0_i32_215 : BitVec 32 := 0#32
  ![v45.toNat, 0]
def k1_dev10 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_210 : BitVec 32 := 4#32
  let v281 : BitVec 32 := Scalar.muli v2 c4_i32_210
  let v282 : BitVec 32 := Scalar.addi c0_i32_211 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v283 : BitVec 32 := Scalar.muli v5 c2_i32_212
  let v284 : BitVec 32 := Scalar.addi v282 v283
  let c1_i32_207 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v280 : BitVec 32 := Scalar.subi c1_i32_207 v8
  let c1_i32_213 : BitVec 32 := 1#32
  let v285 : BitVec 32 := Scalar.muli v280 c1_i32_213
  let v286 : BitVec 32 := Scalar.addi v284 v285
  v286.toNat
def k1_off10 (d0 : Dev nD) (c768_i32 : BitVec 32) (c2_i32_1 : BitVec 32) (c1_i32 : BitVec 32) (c4_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c320_i32 : BitVec 32 := 320#32
  let v46 : BitVec 32 := Scalar.muli v5 c320_i32
  let v47 : BitVec 32 := Scalar.addi c768_i32 v46
  let v6 : BitVec 32 := Dev.word d0
  let v7 : BitVec 32 := Scalar.divsi v6 c1_i32
  let c2_i32_2 : BitVec 32 := 2#32
  let v8 : BitVec 32 := Scalar.remsi v7 c2_i32_2
  let c160_i32 : BitVec 32 := 160#32
  let v51 : BitVec 32 := Scalar.muli v8 c160_i32
  let v52 : BitVec 32 := Scalar.addi v47 v51
  let c1_i32_33 : BitVec 32 := 1#32
  let v0 : BitVec 32 := Dev.word d0
  let v1 : BitVec 32 := Scalar.divsi v0 c4_i32
  let c2_i32 : BitVec 32 := 2#32
  let v2 : BitVec 32 := Scalar.remsi v1 c2_i32
  let v58 : BitVec 32 := Scalar.subi c1_i32_33 v2
  let c80_i32_34 : BitVec 32 := 80#32
  let v59 : BitVec 32 := Scalar.muli v58 c80_i32_34
  let v60 : BitVec 32 := Scalar.addi v52 v59
  let c0_i32_223 : BitVec 32 := 0#32
  ![v60.toNat, 0]
def k1_off10_at (r : Fin 2) : BitVec 32 × BitVec 32 × BitVec 32 × BitVec 32 :=
  if r.val < 1 then
    (768#32, 2#32, 1#32, 4#32)
  else
    (1408#32, 1#32, 4#32, 2#32)
def k1_dev11 (d0 : Dev nD) : Nat :=
  let c0_i32_219 : BitVec 32 := 0#32
  let c1_i32_216 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v293 : BitVec 32 := Scalar.subi c1_i32_216 v2
  let c4_i32_218 : BitVec 32 := 4#32
  let v294 : BitVec 32 := Scalar.muli v293 c4_i32_218
  let v295 : BitVec 32 := Scalar.addi c0_i32_219 v294
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_220 : BitVec 32 := 2#32
  let v296 : BitVec 32 := Scalar.muli v5 c2_i32_220
  let v297 : BitVec 32 := Scalar.addi v295 v296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v298 : BitVec 32 := Scalar.muli v8 c1_i32_221
  let v299 : BitVec 32 := Scalar.addi v297 v298
  v299.toNat
def k1_dev12 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v307 : BitVec 32 := Scalar.muli v2 c4_i32_226
  let v308 : BitVec 32 := Scalar.addi c0_i32_227 v307
  let c1_i32_224 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v306 : BitVec 32 := Scalar.subi c1_i32_224 v5
  let c2_i32_228 : BitVec 32 := 2#32
  let v309 : BitVec 32 := Scalar.muli v306 c2_i32_228
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v311 : BitVec 32 := Scalar.muli v8 c1_i32_229
  let v312 : BitVec 32 := Scalar.addi v310 v311
  v312.toNat
def k1_off11 (d0 : Dev nD) : Fin 2 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c384_i32 : BitVec 32 := 384#32
  let v31 : BitVec 32 := Scalar.muli v2 c384_i32
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c192_i32 : BitVec 32 := 192#32
  let v36 : BitVec 32 := Scalar.muli v5 c192_i32
  let v37 : BitVec 32 := Scalar.addi v32 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c96_i32 : BitVec 32 := 96#32
  let v41 : BitVec 32 := Scalar.muli v8 c96_i32
  let v42 : BitVec 32 := Scalar.addi v37 v41
  let v333 : Index := Scalar.indexCast v42
  let c0_247 : Index := 0#32
  ![v333.toNat, 0]
def k1_off12 (d0 : Dev nD) (c768_i32 : BitVec 32) (c2_i32_1 : BitVec 32) (c1_i32 : BitVec 32) (c4_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c320_i32 : BitVec 32 := 320#32
  let v46 : BitVec 32 := Scalar.muli v5 c320_i32
  let v47 : BitVec 32 := Scalar.addi c768_i32 v46
  let v6 : BitVec 32 := Dev.word d0
  let v7 : BitVec 32 := Scalar.divsi v6 c1_i32
  let c2_i32_2 : BitVec 32 := 2#32
  let v8 : BitVec 32 := Scalar.remsi v7 c2_i32_2
  let c160_i32 : BitVec 32 := 160#32
  let v51 : BitVec 32 := Scalar.muli v8 c160_i32
  let v52 : BitVec 32 := Scalar.addi v47 v51
  let v0 : BitVec 32 := Dev.word d0
  let v1 : BitVec 32 := Scalar.divsi v0 c4_i32
  let c2_i32 : BitVec 32 := 2#32
  let v2 : BitVec 32 := Scalar.remsi v1 c2_i32
  let c80_i32 : BitVec 32 := 80#32
  let v56 : BitVec 32 := Scalar.muli v2 c80_i32
  let v57 : BitVec 32 := Scalar.addi v52 v56
  let v354 : Index := Scalar.indexCast v57
  let c0_265 : Index := 0#32
  ![v354.toNat, 0]
def k1_off12_at (r : Fin 2) : BitVec 32 × BitVec 32 × BitVec 32 × BitVec 32 :=
  if r.val < 1 then
    (768#32, 2#32, 1#32, 4#32)
  else
    (1408#32, 1#32, 4#32, 2#32)
def k1_off13 (d0 : Dev nD) : Fin 2 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c384_i32 : BitVec 32 := 384#32
  let v31 : BitVec 32 := Scalar.muli v2 c384_i32
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c192_i32 : BitVec 32 := 192#32
  let v36 : BitVec 32 := Scalar.muli v5 c192_i32
  let v37 : BitVec 32 := Scalar.addi v32 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c96_i32 : BitVec 32 := 96#32
  let v41 : BitVec 32 := Scalar.muli v8 c96_i32
  let v42 : BitVec 32 := Scalar.addi v37 v41
  let c0_i32_292 : BitVec 32 := 0#32
  ![v42.toNat, 0]
def k1_dev13 (d0 : Dev nD) : Nat :=
  let c0_i32_289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_288 : BitVec 32 := 4#32
  let v383 : BitVec 32 := Scalar.muli v2 c4_i32_288
  let v384 : BitVec 32 := Scalar.addi c0_i32_289 v383
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_290 : BitVec 32 := 2#32
  let v385 : BitVec 32 := Scalar.muli v5 c2_i32_290
  let v386 : BitVec 32 := Scalar.addi v384 v385
  let c1_i32_286 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v382 : BitVec 32 := Scalar.subi c1_i32_286 v8
  let c1_i32_291 : BitVec 32 := 1#32
  let v387 : BitVec 32 := Scalar.muli v382 c1_i32_291
  let v388 : BitVec 32 := Scalar.addi v386 v387
  v388.toNat
def k1_off14 (d0 : Dev nD) (c768_i32 : BitVec 32) (c2_i32_1 : BitVec 32) (c1_i32 : BitVec 32) (c4_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c320_i32 : BitVec 32 := 320#32
  let v46 : BitVec 32 := Scalar.muli v5 c320_i32
  let v47 : BitVec 32 := Scalar.addi c768_i32 v46
  let v6 : BitVec 32 := Dev.word d0
  let v7 : BitVec 32 := Scalar.divsi v6 c1_i32
  let c2_i32_2 : BitVec 32 := 2#32
  let v8 : BitVec 32 := Scalar.remsi v7 c2_i32_2
  let c160_i32 : BitVec 32 := 160#32
  let v51 : BitVec 32 := Scalar.muli v8 c160_i32
  let v52 : BitVec 32 := Scalar.addi v47 v51
  let v0 : BitVec 32 := Dev.word d0
  let v1 : BitVec 32 := Scalar.divsi v0 c4_i32
  let c2_i32 : BitVec 32 := 2#32
  let v2 : BitVec 32 := Scalar.remsi v1 c2_i32
  let c80_i32 : BitVec 32 := 80#32
  let v56 : BitVec 32 := Scalar.muli v2 c80_i32
  let v57 : BitVec 32 := Scalar.addi v52 v56
  let c0_i32_300 : BitVec 32 := 0#32
  ![v57.toNat, 0]
def k1_off14_at (r : Fin 2) : BitVec 32 × BitVec 32 × BitVec 32 × BitVec 32 :=
  if r.val < 1 then
    (768#32, 2#32, 1#32, 4#32)
  else
    (1408#32, 1#32, 4#32, 2#32)
def k1_dev14 (d0 : Dev nD) : Nat :=
  let c0_i32_297 : BitVec 32 := 0#32
  let c1_i32_294 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v395 : BitVec 32 := Scalar.subi c1_i32_294 v2
  let c4_i32_296 : BitVec 32 := 4#32
  let v396 : BitVec 32 := Scalar.muli v395 c4_i32_296
  let v397 : BitVec 32 := Scalar.addi c0_i32_297 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v398 : BitVec 32 := Scalar.muli v5 c2_i32_298
  let v399 : BitVec 32 := Scalar.addi v397 v398
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_299 : BitVec 32 := 1#32
  let v400 : BitVec 32 := Scalar.muli v8 c1_i32_299
  let v401 : BitVec 32 := Scalar.addi v399 v400
  v401.toNat
def k1_dev15 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v409 : BitVec 32 := Scalar.muli v2 c4_i32_304
  let v410 : BitVec 32 := Scalar.addi c0_i32_305 v409
  let c1_i32_302 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v408 : BitVec 32 := Scalar.subi c1_i32_302 v5
  let c2_i32_306 : BitVec 32 := 2#32
  let v411 : BitVec 32 := Scalar.muli v408 c2_i32_306
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_307 : BitVec 32 := 1#32
  let v413 : BitVec 32 := Scalar.muli v8 c1_i32_307
  let v414 : BitVec 32 := Scalar.addi v412 v413
  v414.toNat
def k1_off15 (d0 : Dev nD) : Fin 2 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c384_i32 : BitVec 32 := 384#32
  let v31 : BitVec 32 := Scalar.muli v2 c384_i32
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c192_i32 : BitVec 32 := 192#32
  let v36 : BitVec 32 := Scalar.muli v5 c192_i32
  let v37 : BitVec 32 := Scalar.addi v32 v36
  let c0_i32_355 : BitVec 32 := 0#32
  ![v37.toNat, 0]
def k1_dev16 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v464 : BitVec 32 := Scalar.muli v2 c4_i32_351
  let v465 : BitVec 32 := Scalar.addi c0_i32_352 v464
  let c1_i32_349 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v463 : BitVec 32 := Scalar.subi c1_i32_349 v5
  let c2_i32_353 : BitVec 32 := 2#32
  let v466 : BitVec 32 := Scalar.muli v463 c2_i32_353
  let v467 : BitVec 32 := Scalar.addi v465 v466
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_354 : BitVec 32 := 1#32
  let v468 : BitVec 32 := Scalar.muli v8 c1_i32_354
  let v469 : BitVec 32 := Scalar.addi v467 v468
  v469.toNat
def k1_off16 (d0 : Dev nD) (c768_i32 : BitVec 32) (c2_i32_1 : BitVec 32) (c1_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c320_i32 : BitVec 32 := 320#32
  let v46 : BitVec 32 := Scalar.muli v5 c320_i32
  let v47 : BitVec 32 := Scalar.addi c768_i32 v46
  let v6 : BitVec 32 := Dev.word d0
  let v7 : BitVec 32 := Scalar.divsi v6 c1_i32
  let c2_i32_2 : BitVec 32 := 2#32
  let v8 : BitVec 32 := Scalar.remsi v7 c2_i32_2
  let c160_i32 : BitVec 32 := 160#32
  let v51 : BitVec 32 := Scalar.muli v8 c160_i32
  let v52 : BitVec 32 := Scalar.addi v47 v51
  let c0_i32_363 : BitVec 32 := 0#32
  ![v52.toNat, 0]
def k1_off16_at (r : Fin 2) : BitVec 32 × BitVec 32 × BitVec 32 :=
  if r.val < 1 then
    (768#32, 2#32, 1#32)
  else
    (1408#32, 1#32, 4#32)
def k1_dev17 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v477 : BitVec 32 := Scalar.muli v2 c4_i32_359
  let v478 : BitVec 32 := Scalar.addi c0_i32_360 v477
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_361 : BitVec 32 := 2#32
  let v479 : BitVec 32 := Scalar.muli v5 c2_i32_361
  let v480 : BitVec 32 := Scalar.addi v478 v479
  let c1_i32_357 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v476 : BitVec 32 := Scalar.subi c1_i32_357 v8
  let c1_i32_362 : BitVec 32 := 1#32
  let v481 : BitVec 32 := Scalar.muli v476 c1_i32_362
  let v482 : BitVec 32 := Scalar.addi v480 v481
  v482.toNat
def k1_dev18 (d0 : Dev nD) : Nat :=
  let c0_i32_368 : BitVec 32 := 0#32
  let c1_i32_365 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v489 : BitVec 32 := Scalar.subi c1_i32_365 v2
  let c4_i32_367 : BitVec 32 := 4#32
  let v490 : BitVec 32 := Scalar.muli v489 c4_i32_367
  let v491 : BitVec 32 := Scalar.addi c0_i32_368 v490
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v492 : BitVec 32 := Scalar.muli v5 c2_i32_369
  let v493 : BitVec 32 := Scalar.addi v491 v492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_370 : BitVec 32 := 1#32
  let v494 : BitVec 32 := Scalar.muli v8 c1_i32_370
  let v495 : BitVec 32 := Scalar.addi v493 v494
  v495.toNat
def k1_off17 (d0 : Dev nD) : Fin 2 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c384_i32 : BitVec 32 := 384#32
  let v31 : BitVec 32 := Scalar.muli v2 c384_i32
  let v32 : BitVec 32 := Scalar.addi c0_i32_20 v31
  let c0_i32_418 : BitVec 32 := 0#32
  ![v32.toNat, 0]
def k1_dev19 (d0 : Dev nD) : Nat :=
  let c0_i32_415 : BitVec 32 := 0#32
  let c1_i32_412 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v544 : BitVec 32 := Scalar.subi c1_i32_412 v2
  let c4_i32_414 : BitVec 32 := 4#32
  let v545 : BitVec 32 := Scalar.muli v544 c4_i32_414
  let v546 : BitVec 32 := Scalar.addi c0_i32_415 v545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_416 : BitVec 32 := 2#32
  let v547 : BitVec 32 := Scalar.muli v5 c2_i32_416
  let v548 : BitVec 32 := Scalar.addi v546 v547
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_417 : BitVec 32 := 1#32
  let v549 : BitVec 32 := Scalar.muli v8 c1_i32_417
  let v550 : BitVec 32 := Scalar.addi v548 v549
  v550.toNat
def k1_off18 (d0 : Dev nD) (c768_i32 : BitVec 32) (c2_i32_1 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c320_i32 : BitVec 32 := 320#32
  let v46 : BitVec 32 := Scalar.muli v5 c320_i32
  let v47 : BitVec 32 := Scalar.addi c768_i32 v46
  let c0_i32_426 : BitVec 32 := 0#32
  ![v47.toNat, 0]
def k1_off18_at (r : Fin 2) : BitVec 32 × BitVec 32 :=
  if r.val < 1 then
    (768#32, 2#32)
  else
    (1408#32, 1#32)
def k1_dev20 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v558 : BitVec 32 := Scalar.muli v2 c4_i32_422
  let v559 : BitVec 32 := Scalar.addi c0_i32_423 v558
  let c1_i32_420 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v557 : BitVec 32 := Scalar.subi c1_i32_420 v5
  let c2_i32_424 : BitVec 32 := 2#32
  let v560 : BitVec 32 := Scalar.muli v557 c2_i32_424
  let v561 : BitVec 32 := Scalar.addi v559 v560
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_425 : BitVec 32 := 1#32
  let v562 : BitVec 32 := Scalar.muli v8 c1_i32_425
  let v563 : BitVec 32 := Scalar.addi v561 v562
  v563.toNat
def k1_dev21 (d0 : Dev nD) : Nat :=
  let c0_i32_431 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_430 : BitVec 32 := 4#32
  let v571 : BitVec 32 := Scalar.muli v2 c4_i32_430
  let v572 : BitVec 32 := Scalar.addi c0_i32_431 v571
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v573 : BitVec 32 := Scalar.muli v5 c2_i32_432
  let v574 : BitVec 32 := Scalar.addi v572 v573
  let c1_i32_428 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v570 : BitVec 32 := Scalar.subi c1_i32_428 v8
  let c1_i32_433 : BitVec 32 := 1#32
  let v575 : BitVec 32 := Scalar.muli v570 c1_i32_433
  let v576 : BitVec 32 := Scalar.addi v574 v575
  v576.toNat
abbrev stage1_0 : Fin 1 → Memref sig .tc .vmem S2048x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Geo.lean ====
/- The tables of the all-reduce: the three groups of rows, the axis each copy crosses, where each copy reads and writes, and
   what a copy of a run of rows leaves in the rows it writes. -/
module

public import proofs.«01_k».proof.Proof.Gen.KernelIdeal
public import proofs.«01_k».proof.Proof.Gen.KernelIdeal.Points

@[expose] public section

noncomputable section

namespace Cert.KernelIdeal.AllReduce

open Idealize.ShloMosaic Idealize.ShloMosaic.TcCoe
open Cert.KernelIdeal Cert.KernelIdeal.Gen

/-! ## Devices and tables -/

/-- The device on the other side of axis `a` of the mesh. -/
def pr (a : Fin 3) (c : Dev nD) : Dev nD :=
  ⟨c.val ^^^ (![4, 2, 1] : Fin 3 → ℕ) a, by revert a c; decide +kernel⟩

theorem pr_pr : ∀ (a : Fin 3) (c : Dev nD), pr a (pr a c) = c := by decide +kernel

/-- Copy `3 g + s` is step `s` of group `g`; the axis it crosses. -/
def ord : Fin 9 → Fin 3 := ![0, 1, 2, 1, 2, 0, 2, 0, 1]
/-- The number of rows it moves. -/
def hgt : Fin 9 → ℕ := ![384, 192, 96, 320, 160, 80, 320, 160, 80]
/-- Where it lands in the receiver's scratch. -/
def sof : Fin 9 → ℕ := ![0, 384, 576, 672, 992, 1152, 1232, 1552, 1712]
/-- The first row device `c` keeps after that step. -/
def kp (c : Dev nD) : Fin 9 → ℕ :=
  let x := c.val / 4
  let y := c.val / 2 % 2
  let z := c.val % 2
  ![384 * x, 384 * x + 192 * y, 384 * x + 192 * y + 96 * z,
    768 + 320 * y, 768 + 320 * y + 160 * z, 768 + 320 * y + 160 * z + 80 * x,
    1408 + 320 * z, 1408 + 320 * z + 160 * x, 1408 + 320 * z + 160 * x + 80 * y]

/-- The axis crossed at step `s` by the group that row `i` belongs to. -/
def axisOf (i : ℕ) (s : ℕ) : Fin 3 :=
  if i < 768 then (![0, 1, 2] : Fin 3 → Fin 3) (Fin.ofNat 3 s)
  else if i < 1408 then (![1, 2, 0] : Fin 3 → Fin 3) (Fin.ofNat 3 s)
  else (![2, 0, 1] : Fin 3 → Fin 3) (Fin.ofNat 3 s)

/-- The device that ends up with the sum of row `i`. -/
def own (i : ℕ) : Dev nD :=
  if i < 768 then ⟨4 * (i / 384 % 2) + 2 * (i / 192 % 2) + i / 96 % 2, by show _ < 8; omega⟩
  else if i < 1408 then ⟨4 * ((i - 768) / 80 % 2) + 2 * ((i - 768) / 320 % 2) + (i - 768) / 160 % 2, by show _ < 8; omega⟩
  else ⟨4 * ((i - 1408) / 160 % 2) + 2 * ((i - 1408) / 80 % 2) + (i - 1408) / 320 % 2, by show _ < 8; omega⟩

/-! ## Facts about the tables -/

theorem kp_lo : ∀ (c : Dev nD) (m : Fin 9), kp c m + hgt m ≤ 2048 := by decide +kernel
theorem sof_hi : ∀ (m : Fin 9), sof m + hgt m ≤ 1792 := by decide +kernel
theorem sof_sep : ∀ m n : Fin 9, m ≠ n → sof m + hgt m ≤ sof n ∨ sof n + hgt n ≤ sof m := by decide +kernel

/-- The steps after a group's first. -/
abbrev later (m : Fin 9) : Prop := m.val % 3 ≠ 0
/-- The step before. -/
def prev (m : Fin 9) : Fin 9 := ⟨m.val - 1, by omega⟩

theorem hgt_prev : ∀ m : Fin 9, later m → hgt (prev m) = 2 * hgt m := by decide +kernel

/-- The rows kept after the step before fall into the rows kept after this one and the rows sent at it. -/
theorem halves : ∀ (c : Dev nD) (m : Fin 9), later m →
    (kp c m = kp c (prev m) ∧ kp (pr (ord m) c) m = kp c (prev m) + hgt m)
      ∨ (kp (pr (ord m) c) m = kp c (prev m) ∧ kp c m = kp c (prev m) + hgt m) := by decide +kernel

/-- The first row and the number of rows of group `g`. -/
def glo : Fin 3 → ℕ := ![0, 768, 1408]
def ghi : Fin 3 → ℕ := ![768, 640, 640]
def fst (g : Fin 3) : Fin 9 := ⟨3 * g.val, by omega⟩

theorem halves_fst : ∀ (c : Dev nD) (g : Fin 3),
    ghi g = 2 * hgt (fst g) ∧ ((kp c (fst g) = glo g ∧ kp (pr (ord (fst g)) c) (fst g) = glo g + hgt (fst g))
      ∨ (kp (pr (ord (fst g)) c) (fst g) = glo g ∧ kp c (fst g) = glo g + hgt (fst g))) := by decide +kernel

theorem axisOf_rows (c : Dev nD) (m : Fin 9) (i : ℕ) (h₁ : kp c m ≤ i) (h₂ : i < kp c m + hgt m) :
    axisOf i (m.val % 3) = ord m := by
  have hlo : ∀ (c : Dev nD) (m : Fin 9), (m.val / 3 = 0 → kp c m + hgt m ≤ 768) ∧ (m.val / 3 = 1 → 768 ≤ kp c m ∧ kp c m + hgt m ≤ 1408)
      ∧ (m.val / 3 = 2 → 1408 ≤ kp c m) := by decide +kernel
  obtain ⟨h0, h1, h2⟩ := hlo c m
  unfold axisOf
  have hm : m.val / 3 = 0 ∨ m.val / 3 = 1 ∨ m.val / 3 = 2 := by omega
  rcases hm with hm | hm | hm
  · rw [if_pos (by have := h0 hm; omega)]; clear h₁ h₂ h0 h1 h2; revert m; decide +kernel
  · rw [if_neg (by have := h1 hm; omega), if_pos (by have := h1 hm; omega)]; clear h₁ h₂ h0 h1 h2; revert m; decide +kernel
  · rw [if_neg (by have := h2 hm; omega), if_neg (by have := h2 hm; omega)]; clear h₁ h₂ h0 h1 h2; revert m; decide +kernel

/-- A group's last step. -/
abbrev last (m : Fin 9) : Prop := m.val % 3 = 2

/-- The rows a device keeps at the end are the ones it owns. -/
theorem own_rows (c : Dev nD) (m : Fin 9) (hm : last m) (i : ℕ) (h₁ : kp c m ≤ i) (h₂ : i < kp c m + hgt m) : own i = c := by
  have key : ∀ (m : Fin 9), last m → ∀ c : Dev nD, ∀ j : Fin (hgt m), own (kp c m + j.val) = c := by decide +kernel
  have := key m hm c ⟨i - kp c m, by omega⟩
  rwa [show kp c m + (i - kp c m) = i by omega] at this

/-! ## Runs of rows -/

/-- Rows `lo` up to `lo + h` of an array of `n` rows. -/
def rows (n lo h : ℕ) : Finset (Shape.Idx ⟨2, ![n, 2048]⟩) :=
  Finset.univ.filter fun i => lo ≤ (i 0).val ∧ (i 0).val < lo + h

theorem mem_rows {n lo h : ℕ} {i : Shape.Idx ⟨2, ![n, 2048]⟩} : i ∈ rows n lo h ↔ lo ≤ (i 0).val ∧ (i 0).val < lo + h := by
  unfold rows; rw [Finset.mem_filter]; exact and_iff_right (Finset.mem_univ _)

theorem rows_set {n lo h : ℕ} (off : Fin 2 → ℕ) (inb : ∀ a, off a + (![h, 2048] : Fin 2 → ℕ) a ≤ (![n, 2048] : Fin 2 → ℕ) a) (ho : off = ![lo, 0]) :
    (Rect.unit (s := ⟨2, ![n, 2048]⟩) off ![h, 2048] inb).set = rows n lo h := by
  subst ho
  ext i
  rw [Rect.mem_set_unit, mem_rows]
  constructor
  · intro H; exact H 0
  · intro H a
    fin_cases a
    · exact H
    · exact ⟨Nat.zero_le _, by have := (i 1).isLt; simpa using this⟩

theorem rows_union {n lo lo' LO h H : ℕ} (hH : H = 2 * h) (hh : (lo = LO ∧ lo' = LO + h) ∨ (lo' = LO ∧ lo = LO + h)) :
    rows n LO H = rows n lo h ∪ rows n lo' h := by
  ext i; rw [Finset.mem_union, mem_rows, mem_rows, mem_rows]; omega

theorem rows_disjoint {n lo lo' h h' : ℕ} (hh : lo + h ≤ lo' ∨ lo' + h' ≤ lo) : Disjoint (rows n lo h) (rows n lo' h') := by
  rw [Finset.disjoint_left]; intro i; rw [mem_rows, mem_rows]; omega

/-! ## Contents given by row and column -/

variable {F : FTy → Type} [FloatOps F]

/-- An array of `n` rows given by row and column. -/
def ofRC (n : ℕ) (A : ℕ → ℕ → Elt F .f32) : Shape.Idx ⟨2, ![n, 2048]⟩ → Elt F .f32 := fun i => A (i 0).val (i 1).val

abbrev pM : Memref sig .tc .vmem S2048x2048 .f32 := Memref.whole cc1_stg0_0
abbrev oM : Memref sig .tc .vmem S2048x2048 .f32 := Memref.whole cc1_stg1_0
abbrev sM : Memref sig .tc .vmem S1792x2048 .f32 := Memref.whole cc1_scratch0

theorem p_set {lo h : ℕ} (off : Fin 2 → ℕ) (inb : ∀ a, off a + (![h, 2048] : Fin 2 → ℕ) a ≤ (![2048, 2048] : Fin 2 → ℕ) a)
    (hd) (ho : off = ![lo, 0]) : (pM.slice (Rect.unit (s := S2048x2048) off ![h, 2048] inb) hd).view.set = rows 2048 lo h :=
  (View.set_slice_whole _ _).trans (rows_set off inb ho)
theorem o_set {lo h : ℕ} (off : Fin 2 → ℕ) (inb : ∀ a, off a + (![h, 2048] : Fin 2 → ℕ) a ≤ (![2048, 2048] : Fin 2 → ℕ) a)
    (hd) (ho : off = ![lo, 0]) : (oM.slice (Rect.unit (s := S2048x2048) off ![h, 2048] inb) hd).view.set = rows 2048 lo h :=
  (View.set_slice_whole _ _).trans (rows_set off inb ho)
theorem s_set {lo h : ℕ} (off : Fin 2 → ℕ) (inb : ∀ a, off a + (![h, 2048] : Fin 2 → ℕ) a ≤ (![1792, 2048] : Fin 2 → ℕ) a)
    (hd) (ho : off = ![lo, 0]) : (sM.slice (Rect.unit (s := S1792x2048) off ![h, 2048] inb) hd).view.set = rows 1792 lo h :=
  (View.set_slice_whole _ _).trans (rows_set off inb ho)

/-- The index a run of rows starting at `lo` places its own index at. -/
theorem unit_emb {n lo h : ℕ} (off : Fin 2 → ℕ) (inb : ∀ a, off a + (![h, 2048] : Fin 2 → ℕ) a ≤ (![n, 2048] : Fin 2 → ℕ) a)
    (ho : off = ![lo, 0]) (x : Shape.Idx ⟨2, ![h, 2048]⟩) :
    (((Rect.unit (s := ⟨2, ![n, 2048]⟩) off ![h, 2048] inb).emb x 0).val = lo + (x 0).val)
      ∧ (((Rect.unit (s := ⟨2, ![n, 2048]⟩) off ![h, 2048] inb).emb x 1).val = (x 1).val) := by
  subst ho
  constructor
  · rw [Rect.emb_apply]; show lo + 1 * _ = _; omega
  · rw [Rect.emb_apply]; show 0 + 1 * _ = _; omega

section Copies

variable {lo lo' h : ℕ} (off off' : Fin 2 → ℕ)

/-- A run of rows of `p` copied into scratch. -/
theorem copy_ps (inb : ∀ a, off a + (![h, 2048] : Fin 2 → ℕ) a ≤ (![2048, 2048] : Fin 2 → ℕ) a) (hd)
    (inb' : ∀ a, off' a + (![h, 2048] : Fin 2 → ℕ) a ≤ (![1792, 2048] : Fin 2 → ℕ) a) (hd')
    (ho : off = ![lo, 0]) (ho' : off' = ![lo', 0]) (A : ℕ → ℕ → Elt F .f32) (fd : Shape.Idx S1792x2048 → Elt F .f32)
    (i : Shape.Idx S1792x2048) (hi : i ∈ rows 1792 lo' h) :
    (sM.slice (Rect.unit (s := S1792x2048) off' ![h, 2048] inb') hd').view.write (Elt F) fd
      ((pM.slice (Rect.unit (s := S2048x2048) off ![h, 2048] inb) hd).view.read (Elt F) (ofRC 2048 A)) Finset.univ i
      = ofRC 1792 (fun r j => A (r - lo' + lo) j) i := by
  rw [← rows_set off' inb' ho', ← Rect.map_emb_univ, Finset.mem_map] at hi
  obtain ⟨x, -, rfl⟩ := hi
  refine (View.write_emb_of_mem (v := (sM.slice (Rect.unit (s := S1792x2048) off' ![h, 2048] inb') hd').view) (Val := Elt F) fd _ (Finset.mem_univ x)).trans ?_
  obtain ⟨h₀, h₁⟩ := unit_emb off inb ho x
  obtain ⟨h₀', h₁'⟩ := unit_emb off' inb' ho' x
  show A _ _ = A _ _
  rw [h₀', h₁', show lo' + (x 0).val - lo' + lo = lo + (x 0).val by omega]
  exact congrArg₂ A h₀ h₁

/-- A run of rows of the result copied into scratch. -/
theorem copy_os (inb : ∀ a, off a + (![h, 2048] : Fin 2 → ℕ) a ≤ (![2048, 2048] : Fin 2 → ℕ) a) (hd)
    (inb' : ∀ a, off' a + (![h, 2048] : Fin 2 → ℕ) a ≤ (![1792, 2048] : Fin 2 → ℕ) a) (hd')
    (ho : off = ![lo, 0]) (ho' : off' = ![lo', 0]) (A : ℕ → ℕ → Elt F .f32) (fd : Shape.Idx S1792x2048 → Elt F .f32)
    (i : Shape.Idx S1792x2048) (hi : i ∈ rows 1792 lo' h) :
    (sM.slice (Rect.unit (s := S1792x2048) off' ![h, 2048] inb') hd').view.write (Elt F) fd
      ((oM.slice (Rect.unit (s := S2048x2048) off ![h, 2048] inb) hd).view.read (Elt F) (ofRC 2048 A)) Finset.univ i
      = ofRC 1792 (fun r j => A (r - lo' + lo) j) i := copy_ps off off' inb hd inb' hd' ho ho' A fd i hi

/-- A run of rows of the result copied to the same rows of another device's. -/
theorem copy_oo (inb : ∀ a, off a + (![h, 2048] : Fin 2 → ℕ) a ≤ (![2048, 2048] : Fin 2 → ℕ) a) (hd)
    (inb' : ∀ a, off' a + (![h, 2048] : Fin 2 → ℕ) a ≤ (![2048, 2048] : Fin 2 → ℕ) a) (hd')
    (ho : off = ![lo, 0]) (ho' : off' = ![lo, 0]) (A : ℕ → ℕ → Elt F .f32) (fd : Shape.Idx S2048x2048 → Elt F .f32)
    (i : Shape.Idx S2048x2048) (hi : i ∈ rows 2048 lo h) :
    (oM.slice (Rect.unit (s := S2048x2048) off' ![h, 2048] inb') hd').view.write (Elt F) fd
      ((oM.slice (Rect.unit (s := S2048x2048) off ![h, 2048] inb) hd).view.read (Elt F) (ofRC 2048 A)) Finset.univ i
      = ofRC 2048 A i := by
  rw [← rows_set off' inb' ho', ← Rect.map_emb_univ, Finset.mem_map] at hi
  obtain ⟨x, -, rfl⟩ := hi
  refine (View.write_emb_of_mem (v := (oM.slice (Rect.unit (s := S2048x2048) off' ![h, 2048] inb') hd').view) (Val := Elt F) fd _ (Finset.mem_univ x)).trans ?_
  obtain ⟨h₀, h₁⟩ := unit_emb off inb ho x
  obtain ⟨h₀', h₁'⟩ := unit_emb off' inb' ho' x
  show A _ _ = A _ _
  rw [h₀', h₁']
  exact congrArg₂ A h₀ h₁

/-- What a run of rows of the result holds after a sum is stored there. -/
theorem store_o (inb : ∀ a, off a + (![h, 2048] : Fin 2 → ℕ) a ≤ (![2048, 2048] : Fin 2 → ℕ) a) (ho : off = ![lo, 0])
    (w : Shape.Idx ⟨2, ![h, 2048]⟩ → Elt F .f32) (B : ℕ → ℕ → Elt F .f32) (fd : Shape.Idx S2048x2048 → Elt F .f32)
    (hw : ∀ x : Shape.Idx ⟨2, ![h, 2048]⟩, w x = B (lo + (x 0).val) (x 1).val)
    (i : Shape.Idx S2048x2048) (hi : i ∈ rows 2048 lo h) :
    (oM.access (Rect.unit (s := S2048x2048) off ![h, 2048] inb)).write (Elt F) fd w Finset.univ i = ofRC 2048 B i := by
  rw [← rows_set off inb ho, ← Rect.map_emb_univ, Finset.mem_map] at hi
  obtain ⟨x, -, rfl⟩ := hi
  refine (View.write_emb_of_mem (v := oM.access (Rect.unit (s := S2048x2048) off ![h, 2048] inb)) (Val := Elt F) fd _ (Finset.mem_univ x)).trans ?_
  obtain ⟨h₀, h₁⟩ := unit_emb off inb ho x
  exact (hw x).trans (congrArg₂ B h₀.symm h₁.symm)

end Copies

end Cert.KernelIdeal.AllReduce
-- ==== Proof.KernelIdeal.Sched.lean ====
/- The protocol of the all-reduce: the cells, what each transfer and each barrier unit hands over, what a device owes, the
   order in which devices may wait. -/
module

public import proofs.«01_k».proof.Proof.KernelIdeal.Geo
public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.KernelIdeal.AllReduce

open Idealize.ShloMosaic Idealize.ShloMosaic.TcCoe
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Cert.KernelIdeal Cert.KernelIdeal.Gen

variable {F : FTy → Type} [FloatOps F]

/-- The protocol's own bookkeeping beside the pipeline's. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Contents -/

section Contents
variable (P : Dev nD → ℕ → ℕ → Elt F .f32)

/-- The running sum of device `c` at row `i`, column `j` after `s` steps: its own first, the received one second. -/
def acc : ℕ → Dev nD → ℕ → ℕ → Elt F .f32
  | 0, c, i, j => P c i j
  | s + 1, c, i, j => FloatOps.addf (acc s c i j) (acc s (pr (axisOf i s) c) i j)

/-- The result: each row summed by the device that owns it. -/
def Out (i j : ℕ) : Elt F .f32 := acc P 3 (own i) i j

end Contents

/-! ## Copies: `0 … 8` scatter, `9 … 17` gather -/

def rs (m : Fin 9) : Fin 18 := ⟨m.val, by omega⟩
def ag (m : Fin 9) : Fin 18 := ⟨9 + m.val, by omega⟩
def mOf (q : Fin 18) : Fin 9 := ⟨q.val % 9, by omega⟩
theorem mOf_rs : ∀ m, mOf (rs m) = m := by decide +kernel
theorem mOf_ag : ∀ m, mOf (ag m) = m := by decide +kernel
/-- The device a copy of `c` goes to, and comes from. -/
def peer (c : Dev nD) (q : Fin 18) : Dev nD := pr (ord (mOf q)) c
theorem peer_peer (c : Dev nD) (q : Fin 18) : peer (peer c q) q = c := pr_pr _ _
theorem peer_rs (c : Dev nD) (m : Fin 9) : peer c (rs m) = pr (ord m) c := by unfold peer; rw [mOf_rs]
theorem peer_ag (c : Dev nD) (m : Fin 9) : peer c (ag m) = pr (ord m) c := by unfold peer; rw [mOf_ag]

/-- What a copy's landing adds to its semaphore. -/
def amt (q : Fin 18) : ℕ := Idealize.ShloMosaic.RefSig.tileCredit ⟨2, ![hgt (mOf q), 2048]⟩ .f32
theorem amt_pos : ∀ q, 0 < amt q := by decide +kernel

/-! ## Cells -/

abbrev barS : Sem sig := sig.barrier 0 rfl
def sS (q : Fin 18) : DmaSem sig := ⟨8 + q.val, by show _ < 44; omega⟩
def rS (q : Fin 18) : DmaSem sig := ⟨26 + q.val, by show _ < 44; omega⟩
abbrev barCell (c : Dev nD) : GSem nD τ sig := ((c : Thread nD τ), .reg barS)
abbrev sCell (c : Dev nD) (q : Fin 18) : GSem nD τ sig := ((c : Thread nD τ), .dma (sS q))
abbrev rCell (c : Dev nD) (q : Fin 18) : GSem nD τ sig := ((c : Thread nD τ), .dma (rS q))

/-- The copy a semaphore belongs to. -/
def qOf (s : DmaSem sig) : Fin 18 := ⟨(s.val + 10) % 18, by omega⟩
theorem qOf_sS : ∀ q, qOf (sS q) = q := by decide +kernel
theorem qOf_rS : ∀ q, qOf (rS q) = q := by decide +kernel

theorem sem_s (q : Fin 18) (inb) : ((cc1_scratch1.slice (Rect.unit (s := S18) ![q.val] S1.size inb)).squeeze S_ squeezes_S1_S_).sem = sS q := by
  revert q; decide +kernel
theorem sem_r (q : Fin 18) (inb) : ((cc1_scratch2.slice (Rect.unit (s := S18) ![q.val] S1.size inb)).squeeze S_ squeezes_S1_S_).sem = rS q := by
  revert q; decide +kernel

/-! ## Runs of rows held -/

abbrev pRows (c : Dev nD) (lo h : ℕ) (f : Shape.Idx S2048x2048 → Elt F .f32) : sProp 𝕄 :=
  pM.view.loc (c : Thread nD τ) ↦[rows 2048 lo h]{fullShare} f
abbrev oRows (c : Dev nD) (lo h : ℕ) (f : Shape.Idx S2048x2048 → Elt F .f32) : sProp 𝕄 :=
  oM.view.loc (c : Thread nD τ) ↦[rows 2048 lo h]{fullShare} f
abbrev sRows (c : Dev nD) (lo h : ℕ) (f : Shape.Idx S1792x2048 → Elt F .f32) : sProp 𝕄 :=
  sM.view.loc (c : Thread nD τ) ↦[rows 1792 lo h]{fullShare} f

/-! ## What is handed over -/

section Payloads
variable (P : Dev nD → ℕ → ℕ → Elt F .f32)

/-- What scatter copy `m` leaves in `c`'s scratch: the sender's running sum, moved to where the copy lands. -/
def landed (c : Dev nD) (m : Fin 9) : ℕ → ℕ → Elt F .f32 :=
  fun r j => acc P (m.val % 3) (pr (ord m) c) (r - sof m + kp c m) j

/-- `p`'s room in scratch for scatter copy `m`, with the right to start it. -/
def room (p : Dev nD) (m : Fin 9) : sProp 𝕄 :=
  iprop((∃ f, sRows p (sof m) (hgt m) f) ∗ reached ER (rCell p (rs m)) 0 ∗ reached ER (rCell p (ag m)) 0)

/-- The copies that cross axis `a`. -/
def ms (a : Fin 3) : Fin 3 → Fin 9 := (![![0, 5, 7], ![1, 3, 8], ![2, 4, 6]] : Fin 3 → Fin 3 → Fin 9) a
/-- The first step that crosses axis `a`: which group begins with it. -/
def m₀ : Fin 3 → Fin 9 := ![0, 3, 6]

/-- Handed to `c` with the barrier unit of the device across axis `a`. -/
def barPay (c : Dev nD) (a : Fin 3) : sProp 𝕄 :=
  iprop(room (pr a c) (ms a 0) ∗ room (pr a c) (ms a 1) ∗ room (pr a c) (ms a 2)
    ∗ ∃ f, oRows (pr a c) (kp c (m₀ a)) (hgt (m₀ a)) f)

/-- Handed back to the sender of copy `q` when it has been read. -/
def sendPay (c : Dev nD) (q : Fin 18) : sProp 𝕄 :=
  if q.val < 9 then
    if later (mOf q) then iprop(emp) else pRows c (kp (pr (ord (mOf q)) c) (mOf q)) (hgt (mOf q)) (ofRC 2048 (P c))
  else oRows c (kp c (mOf q)) (hgt (mOf q)) (ofRC 2048 (Out P))

/-- Handed to the receiver of copy `q` when it has landed. -/
def recvPay (c : Dev nD) (q : Fin 18) : sProp 𝕄 :=
  if q.val < 9 then
    if later (mOf q) then
      iprop(sRows c (sof (mOf q)) (hgt (mOf q)) (ofRC 1792 (landed P c (mOf q)))
        ∗ ∃ f, oRows (pr (ord (mOf q)) c) (kp c (mOf q)) (hgt (mOf q)) f)
    else sRows c (sof (mOf q)) (hgt (mOf q)) (ofRC 1792 (landed P c (mOf q)))
  else oRows c (kp (pr (ord (mOf q)) c) (mOf q)) (hgt (mOf q)) (ofRC 2048 (Out P))

/-- One round on every cell: three duties on a barrier cell, one on a copy's. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma s => amt (qOf s)
  payload g _ d := match g.2 with
    | .reg _ => barPay g.1.1 d
    | .dma s => if s.val < 26 then sendPay P g.1.1 (qOf s) else recvPay P g.1.1 (qOf s)
  amount_pos g _ _ _ := by
    cases g.2 with
    | reg _ => exact Nat.one_pos
    | dma s => exact amt_pos _

instance Rd_payload_storable (g : GSem nD τ sig) (r : ℕ) (d : Fin 3) :
    BI.Storable (upEmb : UEmb _ 𝕄) ((Rd (F := F) P).payload g r d) := by
  obtain ⟨t, sm⟩ := g
  cases sm with
  | reg _ => show BI.Storable upEmb (barPay (F := F) t.1 d); unfold barPay room; infer_instance
  | dma s =>
    show BI.Storable upEmb (if s.val < 26 then sendPay (F := F) P t.1 (qOf s) else recvPay (F := F) P t.1 (qOf s))
    unfold sendPay recvPay
    (repeat' split) <;> infer_instance

variable (c : Dev nD) (q : Fin 18) (d : Fin 3)

theorem duties_bar : (Rd (F := F) P).duties (barCell c) 0 = Finset.univ := by dsimp only [Rd]; exact if_pos ⟨rfl, rfl⟩
theorem duties_s : (Rd (F := F) P).duties (sCell c q) 0 = {0} := by dsimp only [Rd]; exact if_pos ⟨rfl, rfl⟩
theorem duties_r : (Rd (F := F) P).duties (rCell c q) 0 = {0} := by dsimp only [Rd]; exact if_pos ⟨rfl, rfl⟩
theorem duties_later (g : GSem nD τ sig) : ∀ r, 1 ≤ r → (Rd (F := F) P).duties g r = ∅ :=
  fun r hr => by dsimp only [Rd]; rw [if_neg (fun h => by omega)]
theorem amount_bar : (Rd (F := F) P).amount (barCell c) 0 d = 1 := rfl
theorem amount_s : (Rd (F := F) P).amount (sCell c q) 0 d = amt q := by show amt (qOf (sS q)) = _; rw [qOf_sS]
theorem amount_r : (Rd (F := F) P).amount (rCell c q) 0 d = amt q := by show amt (qOf (rS q)) = _; rw [qOf_rS]
theorem payload_bar : (Rd (F := F) P).payload (barCell c) 0 d = barPay c d := rfl
theorem payload_s : (Rd (F := F) P).payload (sCell c q) 0 d = sendPay P c q := by
  show (if (sS q).val < 26 then sendPay (F := F) P c (qOf (sS q)) else recvPay (F := F) P c (qOf (sS q))) = _
  rw [qOf_sS, if_pos (by show 8 + q.val < 26; omega)]
theorem payload_r : (Rd (F := F) P).payload (rCell c q) 0 d = recvPay P c q := by
  show (if (rS q).val < 26 then sendPay (F := F) P c (qOf (rS q)) else recvPay (F := F) P c (qOf (rS q))) = _
  rw [qOf_rS, if_neg (by show ¬ 26 + q.val < 26; omega)]

theorem expect_bar : (Rd (F := F) P).expect (barCell c) 0 = 3 := by
  unfold Schedule.expect Schedule.amountOf; rw [duties_bar]; rfl
theorem expect_s : (Rd (F := F) P).expect (sCell c q) 0 = amt q := by
  unfold Schedule.expect Schedule.amountOf; rw [duties_s, Finset.sum_singleton, amount_s]
theorem expect_r : (Rd (F := F) P).expect (rCell c q) 0 = amt q := by
  unfold Schedule.expect Schedule.amountOf; rw [duties_r, Finset.sum_singleton, amount_r]

theorem rest_s : bigSep ((Rd (F := F) P).duties (sCell c q) 0 \ ∅) (fun u => (Rd (F := F) P).payload (sCell c q) 0 u) = sendPay P c q := by
  rw [Finset.sdiff_empty, duties_s, bigSep_singleton, payload_s]
theorem rest_r : bigSep ((Rd (F := F) P).duties (rCell c q) 0 \ ∅) (fun u => (Rd (F := F) P).payload (rCell c q) 0 u) = recvPay P c q := by
  rw [Finset.sdiff_empty, duties_r, bigSep_singleton, payload_r]
theorem rest_bar : bigSep ((Rd (F := F) P).duties (barCell c) 0 \ ∅) (fun u => (Rd (F := F) P).payload (barCell c) 0 u)
    = iprop(barPay c 0 ∗ barPay c 1 ∗ barPay c 2) := by
  rw [Finset.sdiff_empty, duties_bar]
  rw [show (Finset.univ : Finset (Fin 3)) = insert 0 (insert 1 {2}) by decide, bigSep_insert (by decide), bigSep_insert (by decide), bigSep_singleton]
  rfl

end Payloads

/-! ## What is owed; the levels -/

/-- What device `c` owes while it has the barrier units across the axes `la` and the copies `l` still to send. -/
def owed (c : Dev nD) (la : List (Fin 3)) (l : List (Fin 18)) : CellTallies nD τ sig Unit :=
  (la.map fun a => (tallyAt (barCell (pr a c)) () 1 : CellTallies nD τ sig Unit)).sum
    + (l.map fun q => (tallyAt (rCell (peer c q) q) () (amt q) : CellTallies nD τ sig Unit)).sum

theorem owed_bar (c : Dev nD) (a : Fin 3) (la : List (Fin 3)) (l : List (Fin 18)) :
    owed c (a :: la) l = owed c la l + tallyAt (barCell (pr a c)) () 1 := by
  unfold owed; rw [List.map_cons, List.sum_cons]; ac_rfl
theorem owed_copy (c : Dev nD) (q : Fin 18) (l : List (Fin 18)) :
    owed c [] (q :: l) = owed c [] l + tallyAt (rCell (peer c q) q) () (amt q) := by
  unfold owed; rw [List.map_cons, List.sum_cons]; ac_rfl
theorem owed_nil (c : Dev nD) : owed c [] [] = 0 := by unfold owed; simp

theorem owed_at {c : Dev nD} {la : List (Fin 3)} {l : List (Fin 18)} {g : GSem nD τ sig} {u : Unit} (h : 0 < owed c la l g u) :
    (∃ a ∈ la, g = barCell (pr a c)) ∨ ∃ q ∈ l, g = rCell (peer c q) q := by
  induction la with
  | cons a la ih =>
    rw [owed_bar, Pi.add_apply, Finsupp.add_apply, tallyAt_apply] at h
    by_cases hg : g = barCell (pr a c) ∧ u = ()
    · exact .inl ⟨a, List.mem_cons_self, hg.1⟩
    · rw [if_neg hg, add_zero] at h
      rcases ih h with ⟨a', h₁, h₂⟩ | h'
      · exact .inl ⟨a', List.mem_cons_of_mem _ h₁, h₂⟩
      · exact .inr h'
  | nil =>
    induction l with
    | cons q l ih =>
      rw [owed_copy, Pi.add_apply, Finsupp.add_apply, tallyAt_apply] at h
      by_cases hg : g = rCell (peer c q) q ∧ u = ()
      · exact .inr ⟨q, List.mem_cons_self, hg.1⟩
      · rw [if_neg hg, add_zero] at h
        rcases ih h with ⟨a', h₁, h₂⟩ | ⟨q', h₁, h₂⟩
        · exact absurd h₁ List.not_mem_nil
        · exact .inr ⟨q', List.mem_cons_of_mem _ h₁, h₂⟩
    | nil => rw [owed_nil] at h; exact absurd h (Nat.lt_irrefl 0)

def L (g : GSem nD τ sig) : Finset Unit := if g.1.2 = .tc then {()} else ∅
/-- Copies land in the order they are started in: the scatter's three steps, then the gather's three from the last back. -/
def lvq (q : Fin 18) : ℕ := if q.val < 9 then 2 + q.val % 3 else 7 - q.val % 3
def lvS (s : SemLoc sig) : ℕ := match s with | .reg _ => 1 | .dma s => if s.val < 26 then 0 else lvq (qOf s)
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_r (q : Fin 18) : lvS (.dma (rS q)) = lvq q := by
  show (if (rS q).val < 26 then 0 else lvq (qOf (rS q))) = _
  rw [qOf_rS, if_neg (by show ¬ 26 + q.val < 26; omega)]
theorem lvS_s (q : Fin 18) : lvS (.dma (sS q)) = 0 := if_pos (by show 8 + q.val < 26; omega)

theorem mayWait (c : Dev nD) (sm : SemLoc sig) (la : List (Fin 3)) (l : List (Fin 18)) (ha : ∀ a ∈ la, lvS sm < 1)
    (hq : ∀ q ∈ l, lvS sm < lvq q) : (levAts L lv : sProp 𝕄) ⊢ MayWait (c : Thread nD τ) sm () (owed c la l) :=
  MayOwe.of_cut (L := L) (lev := lv) (lvS sm) (fun p hp => by rw [Finset.mem_singleton.mp hp, L_tc]; exact Finset.mem_singleton_self _)
    (fun g u hg => by
      rcases owed_at hg with ⟨a, -, h⟩ | ⟨q, -, h⟩ <;> (rw [h, L_tc]; exact Finset.mem_singleton_self _))
    (fun p hp => by rw [Finset.mem_singleton.mp hp]; exact le_rfl)
    (fun g u hg => by
      rcases owed_at hg with ⟨a, h₁, h⟩ | ⟨q, h₁, h⟩
      · rw [h]; exact ha a h₁
      · rw [h]; show _ < lvS _; rw [lvS_r]; exact hq q h₁)

end Cert.KernelIdeal.AllReduce
-- ==== Proof.KernelIdeal.Steps.lean ====
/- One step of the all-reduce at a time: a barrier signal, the barrier wait, the start of a copy, the waits for it, the sum. -/
module

public import proofs.«01_k».proof.Proof.KernelIdeal.Sched

@[expose] public section

noncomputable section

namespace Cert.KernelIdeal.AllReduce

open Idealize.ShloMosaic Idealize.ShloMosaic.TcCoe
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (P : Dev nD → ℕ → ℕ → Elt F .f32) (κ : GSem nD τ sig → ℕ)

/-- Every cell's invariant, and that every barrier cell's round is open. -/
def recs : sProp 𝕄 :=
  bigSep Finset.univ fun c : Dev nD => iprop(cellInv ER (Rd P) (κ (barCell c)) (barCell c) ∗ reached ER (barCell c) 0
    ∗ bigSep Finset.univ fun q : Fin 18 =>
        iprop(cellInv ER (Rd P) (κ (sCell c q)) (sCell c q) ∗ cellInv ER (Rd P) (κ (rCell c q)) (rCell c q)))

instance recs_persistent : BI.Persistent (recs P κ) := by unfold recs; infer_instance

theorem recs_dev (c : Dev nD) : recs P κ ⊢ iprop(cellInv ER (Rd P) (κ (barCell c)) (barCell c) ∗ reached ER (barCell c) 0
    ∗ bigSep Finset.univ fun q : Fin 18 =>
        iprop(cellInv ER (Rd P) (κ (sCell c q)) (sCell c q) ∗ cellInv ER (Rd P) (κ (rCell c q)) (rCell c q))) :=
  bigSep_elim (Finset.mem_univ c)
theorem recs_bar (c : Dev nD) : recs P κ ⊢ iprop(cellInv ER (Rd P) (κ (barCell c)) (barCell c) ∗ reached ER (barCell c) 0) := by
  iintro H
  ihave ⟨#H₁, #H₂, -⟩ := (recs_dev P κ c) $$ H
  isplitr; · iexact H₁
  iexact H₂
theorem recs_copy (c : Dev nD) (q : Fin 18) :
    recs P κ ⊢ iprop(cellInv ER (Rd P) (κ (sCell c q)) (sCell c q) ∗ cellInv ER (Rd P) (κ (rCell c q)) (rCell c q)) := by
  iintro H
  ihave ⟨-, -, H₂⟩ := (recs_dev P κ c) $$ H
  have h := bigSep_elim (Φ := fun q : Fin 18 =>
        iprop(cellInv ER (Rd P) (κ (sCell c q)) (sCell c q) ∗ cellInv ER (Rd P) (κ (rCell c q)) (rCell c q))) (Finset.mem_univ q)
  iapply (show _ ⊢ _ from h)
  iexact H₂

/-! ## What a device carries per copy -/

/-- Before copy `q` is started. -/
def tk (c : Dev nD) (q : Fin 18) : sProp 𝕄 :=
  iprop(atPos ER (sCell c q) 0 ∅ 0 ∗ atPos ER (rCell c q) 0 ∅ 0 ∗ reached ER (sCell c q) 0
    ∗ dutyTok ER (sCell c q) 0 0 ∗ dutyTok ER (rCell (peer c q) q) 0 0 ∗ cred (tallyAt (rCell c q) () (amt q)))
/-- Started, neither wait done. -/
def fl (c : Dev nD) (q : Fin 18) : sProp 𝕄 :=
  iprop(atPos ER (sCell c q) 0 ∅ 0 ∗ atPos ER (rCell c q) 0 ∅ 0 ∗ cred (tallyAt (sCell c q) () (amt q)) ∗ cred (tallyAt (rCell c q) () (amt q)))
/-- Both waits done. -/
def dn (c : Dev nD) (q : Fin 18) : sProp 𝕄 := iprop(atPos ER (sCell c q) (0 + 1) ∅ 0 ∗ atPos ER (rCell c q) (0 + 1) ∅ 0)
/-- What is owed, at some record of waits. -/
def ow (c : Dev nD) (la : List (Fin 3)) (l : List (Fin 18)) : sProp 𝕄 := iprop(∃ W, owes (c : Thread nD τ) (owed c la l) W)

variable {α : Type}

/-- The program `p` on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {k : PUnit → Prog (TpuEff nD τ sig (Elt F) Λ₀ .tc) α}

/-! ## The barrier -/

theorem signal_step {Q : α → sProp 𝕄} (a : Fin 3) (la : List (Fin 3)) (l : List (Fin 18)) (c' : Dev nD) (hc : c' = pr a c) :
    iprop(recs P κ ∗ dutyTok ER (barCell (pr a c)) 0 a ∗ barPay (pr a c) a ∗ ow c (a :: la) l)
      ⊢ iprop((ow c la l -∗ WP c (k ⟨⟩) Q) -∗ WP c (.op (.semSignal (c' : Thread nD τ) barS 1) k) Q) := by
  subst hc
  unfold ow
  iintro ⟨#HR, Htok, Hpay, ⟨%W, HO⟩⟩ Hk
  ihave ⟨#HI, #Hr⟩ := (recs_bar P κ (pr a c)) $$ HR
  iapply (Rounds.wp_signal 𝒱₀ ER (Rd P) (c : Thread nD τ) none (dst := (pr a c : Thread nD τ)) (sem := barS) (r := 0) (d := a) (κ := κ (barCell (pr a c)))
      (by rw [duties_bar]; exact Finset.mem_univ _) (amount_bar P (pr a c) a) () (owed c la l) (owed_bar c a la l)) $$ [HO Htok Hpay]
  · isplitr; · iexact HI
    isplitl [HO]; · iexact HO
    isplitl [Htok]; · iexact Htok
    isplitl [Hpay]; · rw [payload_bar]; iexact Hpay
    iexact Hr
  iintro HO
  iapply Hk
  iexists W; iexact HO

theorem wait_step {Q : α → sProp 𝕄} (l : List (Fin 18)) (hl : ∀ q ∈ l, 1 < lvq q) :
    iprop(recs P κ ∗ levAts L lv ∗ atPos ER (barCell c) 0 ∅ 0 ∗ cred (tallyAt (barCell c) () 3) ∗ ow c [] l)
      ⊢ iprop((iprop(atPos ER (barCell c) (0 + 1) ∅ 0 ∗ barPay c 0 ∗ barPay c 1 ∗ barPay c 2 ∗ ow c [] l) -∗ WP c (k ⟨⟩) Q)
        -∗ WP c (.op (.semWait barS 3) k) Q) := by
  unfold ow
  iintro ⟨#HR, #Hlev, Hat, Hc, ⟨%W, HO⟩⟩ Hk
  ihave ⟨#HI, -⟩ := (recs_bar P κ c) $$ HR
  iapply (Rounds.wp_wait_rest_token 𝒱₀ ER (Rd P) (c : Thread nD τ) none (κ := κ (barCell c))
      (wpE_semWait_eq 𝒱₀ (c : Thread nD τ) none Set.univ) (Set.mem_univ _) () (O := owed c [] l) (W := W) (R := 0) (m := 0) (T := ∅)
      ((Nat.zero_add 3).trans (expect_bar P c).symm)) $$ [Hc HO Hat]
  · isplitr; · iexact HI
    isplitl [Hc]; · iexact Hc
    isplitl [HO]; · iexact HO
    isplitr; · iapply (mayWait c (.reg barS) [] l (fun a h => absurd h List.not_mem_nil) hl); iexact Hlev
    iexact Hat
  iintro ⟨HO, Hat, -, Hpay⟩
  ihave ⟨H₀, H₁, H₂⟩ := (Entails.of_eq (rest_bar P c)) $$ Hpay
  iapply Hk
  isplitl [Hat]; · iexact Hat
  isplitl [H₀]; · iexact H₀
  isplitl [H₁]; · iexact H₁
  isplitl [H₂]; · iexact H₂
  iexists _; iexact HO

/-! ## The waits for a copy -/

theorem wait_s {Q : α → sProp 𝕄} (q : Fin 18) (l : List (Fin 18)) (hl : ∀ q ∈ l, 0 < lvq q) (sem : DmaSem sig) (hs : sem = sS q)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = amt q) :
    iprop(recs P κ ∗ levAts L lv ∗ fl c q ∗ ow c [] l)
      ⊢ iprop((iprop((atPos ER (sCell c q) (0 + 1) ∅ 0 ∗ atPos ER (rCell c q) 0 ∅ 0 ∗ cred (tallyAt (rCell c q) () (amt q)))
          ∗ sendPay P c q ∗ ow c [] l) -∗ WP c (k ⟨⟩) Q)
        -∗ WP c (.op (.waitDma2 sem src dst hsrc hdst) k) Q) := by
  subst hs
  unfold ow fl
  iintro ⟨#HR, #Hlev, ⟨HatS, HatR, HcS, HcR⟩, ⟨%W, HO⟩⟩ Hk
  ihave ⟨#HI, -⟩ := (recs_copy P κ c q) $$ HR
  iapply (Rounds.wp_wait_rest_token 𝒱₀ ER (Rd P) (c : Thread nD τ) none (κ := κ (sCell c q))
      (wpE_waitDma2_eq 𝒱₀ (c : Thread nD τ) none Set.univ) (Set.mem_univ _) () (O := owed c [] l) (W := W) (R := 0) (m := 0) (T := ∅)
      ((Nat.zero_add _).trans (hN.trans (expect_s P c q).symm))) $$ [HcS HO HatS]
  · isplitr; · iexact HI
    isplitl [HcS]; · rw [hN]; iexact HcS
    isplitl [HO]; · iexact HO
    isplitr; · iapply (mayWait c (.dma (sS q)) [] l (fun a h => absurd h List.not_mem_nil) (by rw [lvS_s]; exact hl)); iexact Hlev
    iexact HatS
  iintro ⟨HO, HatS, -, Hpay⟩
  ihave Hpay := (Entails.of_eq (rest_s P c q)) $$ Hpay
  iapply Hk
  isplitl [HatS HatR HcR]
  · isplitl [HatS]; · iexact HatS
    isplitl [HatR]; · iexact HatR
    iexact HcR
  isplitl [Hpay]; · iexact Hpay
  iexists _; iexact HO

theorem wait_r {Q : α → sProp 𝕄} (q : Fin 18) (l : List (Fin 18)) (hl : ∀ q' ∈ l, lvq q < lvq q') (sem : DmaSem sig) (hs : sem = rS q)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = amt q) :
    iprop(recs P κ ∗ levAts L lv ∗ (atPos ER (sCell c q) (0 + 1) ∅ 0 ∗ atPos ER (rCell c q) 0 ∅ 0 ∗ cred (tallyAt (rCell c q) () (amt q))) ∗ ow c [] l)
      ⊢ iprop((iprop(dn c q ∗ recvPay P c q ∗ ow c [] l) -∗ WP c (k ⟨⟩) Q)
        -∗ WP c (.op (.waitDma2 sem src dst hsrc hdst) k) Q) := by
  subst hs
  unfold ow dn
  iintro ⟨#HR, #Hlev, ⟨HatS, HatR, HcR⟩, ⟨%W, HO⟩⟩ Hk
  ihave ⟨-, #HI⟩ := (recs_copy P κ c q) $$ HR
  iapply (Rounds.wp_wait_rest_token 𝒱₀ ER (Rd P) (c : Thread nD τ) none (κ := κ (rCell c q))
      (wpE_waitDma2_eq 𝒱₀ (c : Thread nD τ) none Set.univ) (Set.mem_univ _) () (O := owed c [] l) (W := W) (R := 0) (m := 0) (T := ∅)
      ((Nat.zero_add _).trans (hN.trans (expect_r P c q).symm))) $$ [HcR HO HatR]
  · isplitr; · iexact HI
    isplitl [HcR]; · rw [hN]; iexact HcR
    isplitl [HO]; · iexact HO
    isplitr; · iapply (mayWait c (.dma (rS q)) [] l (fun a h => absurd h List.not_mem_nil) (by rw [lvS_r]; exact hl)); iexact Hlev
    iexact HatR
  iintro ⟨HO, HatR, -, Hpay⟩
  ihave Hpay := (Entails.of_eq (rest_r P c q)) $$ Hpay
  iapply Hk
  isplitl [HatS HatR]
  · isplitl [HatS]; · iexact HatS
    iexact HatR
  isplitl [Hpay]; · iexact Hpay
  iexists _; iexact HO

end Cert.KernelIdeal.AllReduce
-- ==== Proof.KernelIdeal.Copies.lean ====
/- Starting a copy, in each of the three ways the all-reduce does, and adding what has landed. -/
module

public import proofs.«01_k».proof.Proof.KernelIdeal.Steps

@[expose] public section

noncomputable section

namespace Cert.KernelIdeal.AllReduce

open Idealize.ShloMosaic Idealize.ShloMosaic.TcCoe
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → ℕ → ℕ → Elt F .f32) (κ : GSem nD τ sig → ℕ)

/-! ## Views of runs of rows, as runs of rows -/

section Views
variable (c : Dev nD) {lo h : ℕ} (off : Fin 2 → ℕ)

theorem p_pts (inb : ∀ a, off a + (![h, 2048] : Fin 2 → ℕ) a ≤ (![2048, 2048] : Fin 2 → ℕ) a) (hd) (ho : off = ![lo, 0])
    (f : Shape.Idx S2048x2048 → Elt F .f32) :
    ((pM.slice (Rect.unit (s := S2048x2048) off ![h, 2048] inb) hd).view.loc (c : Thread nD τ)
      ↦[(pM.slice (Rect.unit (s := S2048x2048) off ![h, 2048] inb) hd).view.set]{fullShare} f : sProp 𝕄) = pRows c lo h f :=
  congrArg (fun S : Finset (Shape.Idx S2048x2048) => (pM.view.loc (c : Thread nD τ) ↦[S]{fullShare} f : sProp 𝕄)) (p_set off inb hd ho)
theorem o_pts (inb : ∀ a, off a + (![h, 2048] : Fin 2 → ℕ) a ≤ (![2048, 2048] : Fin 2 → ℕ) a) (hd) (ho : off = ![lo, 0])
    (f : Shape.Idx S2048x2048 → Elt F .f32) :
    ((oM.slice (Rect.unit (s := S2048x2048) off ![h, 2048] inb) hd).view.loc (c : Thread nD τ)
      ↦[(oM.slice (Rect.unit (s := S2048x2048) off ![h, 2048] inb) hd).view.set]{fullShare} f : sProp 𝕄) = oRows c lo h f :=
  congrArg (fun S : Finset (Shape.Idx S2048x2048) => (oM.view.loc (c : Thread nD τ) ↦[S]{fullShare} f : sProp 𝕄)) (o_set off inb hd ho)
theorem s_pts (inb : ∀ a, off a + (![h, 2048] : Fin 2 → ℕ) a ≤ (![1792, 2048] : Fin 2 → ℕ) a) (hd) (ho : off = ![lo, 0])
    (f : Shape.Idx S1792x2048 → Elt F .f32) :
    ((sM.slice (Rect.unit (s := S1792x2048) off ![h, 2048] inb) hd).view.loc (c : Thread nD τ)
      ↦[(sM.slice (Rect.unit (s := S1792x2048) off ![h, 2048] inb) hd).view.set]{fullShare} f : sProp 𝕄) = sRows c lo h f :=
  congrArg (fun S : Finset (Shape.Idx S1792x2048) => (sM.view.loc (c : Thread nD τ) ↦[S]{fullShare} f : sProp 𝕄)) (s_set off inb hd ho)
end Views

/-! ## What each payload is -/

section Pays
variable (c : Dev nD) (m : Fin 9)
theorem sendPay_first (hm : ¬ later m) : sendPay P c (rs m) = pRows c (kp (pr (ord m) c) m) (hgt m) (ofRC 2048 (P c)) := by
  unfold sendPay; rw [mOf_rs, if_pos (show (rs m).val < 9 from m.isLt), if_neg hm]
theorem sendPay_later (hm : later m) : sendPay P c (rs m) = iprop(emp) := by
  unfold sendPay; rw [mOf_rs, if_pos (show (rs m).val < 9 from m.isLt), if_pos hm]
theorem sendPay_ag : sendPay P c (ag m) = oRows c (kp c m) (hgt m) (ofRC 2048 (Out P)) := by
  unfold sendPay; rw [mOf_ag, if_neg (show ¬ (ag m).val < 9 by show ¬ 9 + m.val < 9; omega)]
theorem recvPay_first (hm : ¬ later m) : recvPay P c (rs m) = sRows c (sof m) (hgt m) (ofRC 1792 (landed P c m)) := by
  unfold recvPay; rw [mOf_rs, if_pos (show (rs m).val < 9 from m.isLt), if_neg hm]
theorem recvPay_later (hm : later m) : recvPay P c (rs m) = iprop(sRows c (sof m) (hgt m) (ofRC 1792 (landed P c m))
      ∗ ∃ f, oRows (pr (ord m) c) (kp c m) (hgt m) f) := by
  unfold recvPay; rw [mOf_rs, if_pos (show (rs m).val < 9 from m.isLt), if_pos hm]
theorem recvPay_ag : recvPay P c (ag m) = oRows c (kp (pr (ord m) c) m) (hgt m) (ofRC 2048 (Out P)) := by
  unfold recvPay; rw [mOf_ag, if_neg (show ¬ (ag m).val < 9 by show ¬ 9 + m.val < 9; omega)]
end Pays

variable {α : Type} (c : Dev nD) {k : PUnit → Prog (TpuEff nD τ sig (Elt F) Λ₀ .tc) α}

/-! ## Starting a copy -/

section Start
variable (m : Fin 9) (l : List (Fin 18)) {h : ℕ} (hh : h = hgt m) (off off' : Fin 2 → ℕ)

include hh in
/-- The first step's copy, out of `p`. -/
theorem start_first {Q : α → sProp 𝕄} (hm : ¬ later m)
    (sem sem' : DmaSem sig) (hs : sem = sS (rs m)) (hs' : sem' = rS (rs m)) (c' : Dev nD) (hc : c' = pr (ord m) c)
    (inb : ∀ a, off a + (![h, 2048] : Fin 2 → ℕ) a ≤ (![2048, 2048] : Fin 2 → ℕ) a) (hd)
    (inb' : ∀ a, off' a + (![h, 2048] : Fin 2 → ℕ) a ≤ (![1792, 2048] : Fin 2 → ℕ) a) (hd')
    (ho : off = ![kp (pr (ord m) c) m, 0]) (ho' : off' = ![sof m, 0]) {hsc hsrc hdst hsem} :
    iprop(recs P κ ∗ tk c (rs m) ∗ pRows c (kp (pr (ord m) c) m) (hgt m) (ofRC 2048 (P c))
        ∗ (∃ f, sRows (pr (ord m) c) (sof m) (hgt m) f) ∗ reached ER (rCell (pr (ord m) c) (rs m)) 0 ∗ ow c [] (rs m :: l))
      ⊢ iprop((iprop(fl c (rs m) ∗ ow c [] l) -∗ WP c (k ⟨⟩) Q)
        -∗ WP c (.op (.enqueueDma (pM.slice (Rect.unit (s := S2048x2048) off ![h, 2048] inb) hd)
            (.remote (c' : Thread nD τ) (sM.slice (Rect.unit (s := S1792x2048) off' ![h, 2048] inb') hd') (.dma sem) hsc) (.dma sem') hsrc hdst hsem) k) Q) := by
  subst hh hs hs' hc
  unfold ow tk fl
  rw [peer_rs]
  iintro ⟨#HR, ⟨HatS, HatR, #HrS, HtS, HtR, HcR⟩, Hp, ⟨%fd, Hd⟩, #HrR, ⟨%W, HO⟩⟩ Hk
  ihave ⟨#HIs, -⟩ := (recs_copy P κ c (rs m)) $$ HR
  ihave ⟨-, #HIr⟩ := (recs_copy P κ (pr (ord m) c) (rs m)) $$ HR
  iapply (Rounds.wp_send_pointsTo 𝒱₀ ER (Rd P) (c : Thread nD τ) none (c' := (pr (ord m) c : Thread nD τ))
      (src := pM.slice (Rect.unit (s := S2048x2048) off ![hgt m, 2048] inb) hd) (dst := sM.slice (Rect.unit (s := S1792x2048) off' ![hgt m, 2048] inb') hd')
      (sS := .dma (sS (rs m))) (sem := .dma (rS (rs m))) (q := fullShare) (fs := ofRC 2048 (P c)) (κ₁ := κ (sCell c (rs m))) (κ₂ := κ (rCell (pr (ord m) c) (rs m)))
      (r₁ := 0) (r₂ := 0) (d₁ := 0) (d₂ := 0) (fd := fd)
      (by rw [duties_s]; exact Finset.mem_singleton_self _) (by rw [duties_r]; exact Finset.mem_singleton_self _)
      () () (amt (rs m)) (by unfold amt; rw [mOf_rs]; rfl) (amount_s P c _ 0) (amount_r P _ _ 0) (O₀ := owed c [] (rs m :: l)) (owed c [] l) (by rw [owed_copy, peer_rs]) (W := W)
      (by rw [payload_s, sendPay_first P c m hm, p_pts c off inb hd ho])
      (by
        rw [payload_r, recvPay_first P _ m hm, s_pts (pr (ord m) c) off' inb' hd' ho']
        refine Entails.of_eq (pointsTo_congr fun i hi => ?_)
        rw [copy_ps off off' inb hd inb' hd' ho ho' (P c) fd i hi]
        unfold landed; rw [pr_pr, show m.val % 3 = 0 from not_not.mp hm]; rfl)) $$ [Hp Hd HO HtS HtR]
  · isplitr; · iexact HIs
    isplitr; · iexact HIr
    isplitl [Hp]; · rw [p_pts c off inb hd ho]; iexact Hp
    isplitl [Hd]; · rw [s_pts (pr (ord m) c) off' inb' hd' ho']; iexact Hd
    isplitl [HO]; · iexact HO
    isplitl [HtS]; · iexact HtS
    isplitr; · iexact HrS
    isplitl [HtR]; · iexact HtR
    iexact HrR
  iintro ⟨HcS, HO⟩
  iapply Hk
  isplitl [HatS HatR HcR HcS]
  · isplitl [HatS]; · iexact HatS
    isplitl [HatR]; · iexact HatR
    isplitl [HcS]; · iexact HcS
    iexact HcR
  iexists W; iexact HO

include hh in
/-- A later step's copy, out of the result: the rows sent go with it. -/
theorem start_later {Q : α → sProp 𝕄} (hm : later m)
    (sem sem' : DmaSem sig) (hs : sem = sS (rs m)) (hs' : sem' = rS (rs m)) (c' : Dev nD) (hc : c' = pr (ord m) c)
    (inb : ∀ a, off a + (![h, 2048] : Fin 2 → ℕ) a ≤ (![2048, 2048] : Fin 2 → ℕ) a) (hd)
    (inb' : ∀ a, off' a + (![h, 2048] : Fin 2 → ℕ) a ≤ (![1792, 2048] : Fin 2 → ℕ) a) (hd')
    (ho : off = ![kp (pr (ord m) c) m, 0]) (ho' : off' = ![sof m, 0]) {hsc hsrc hdst hsem} :
    iprop(recs P κ ∗ tk c (rs m) ∗ oRows c (kp (pr (ord m) c) m) (hgt m) (ofRC 2048 (acc P (m.val % 3) c))
        ∗ (∃ f, sRows (pr (ord m) c) (sof m) (hgt m) f) ∗ reached ER (rCell (pr (ord m) c) (rs m)) 0 ∗ ow c [] (rs m :: l))
      ⊢ iprop((iprop(fl c (rs m) ∗ ow c [] l) -∗ WP c (k ⟨⟩) Q)
        -∗ WP c (.op (.enqueueDma (oM.slice (Rect.unit (s := S2048x2048) off ![h, 2048] inb) hd)
            (.remote (c' : Thread nD τ) (sM.slice (Rect.unit (s := S1792x2048) off' ![h, 2048] inb') hd') (.dma sem) hsc) (.dma sem') hsrc hdst hsem) k) Q) := by
  subst hh hs hs' hc
  unfold ow tk fl
  rw [peer_rs]
  iintro ⟨#HR, ⟨HatS, HatR, #HrS, HtS, HtR, HcR⟩, Hp, ⟨%fd, Hd⟩, #HrR, ⟨%W, HO⟩⟩ Hk
  ihave ⟨#HIs, -⟩ := (recs_copy P κ c (rs m)) $$ HR
  ihave ⟨-, #HIr⟩ := (recs_copy P κ (pr (ord m) c) (rs m)) $$ HR
  iapply (Rounds.wp_send_landing_pointsTo 𝒱₀ ER (Rd P) (c : Thread nD τ) none (c' := (pr (ord m) c : Thread nD τ))
      (src := oM.slice (Rect.unit (s := S2048x2048) off ![hgt m, 2048] inb) hd) (dst := sM.slice (Rect.unit (s := S1792x2048) off' ![hgt m, 2048] inb') hd')
      (sS := .dma (sS (rs m))) (sem := .dma (rS (rs m))) (q := fullShare) (fs := ofRC 2048 (acc P (m.val % 3) c)) (κ₁ := κ (sCell c (rs m))) (κ₂ := κ (rCell (pr (ord m) c) (rs m)))
      (r₁ := 0) (r₂ := 0) (d₁ := 0) (d₂ := 0) (fd := fd)
      (by rw [duties_s]; exact Finset.mem_singleton_self _) (by rw [duties_r]; exact Finset.mem_singleton_self _)
      () () (amt (rs m)) (by unfold amt; rw [mOf_rs]; rfl) (amount_s P c _ 0) (amount_r P _ _ 0) (O₀ := owed c [] (rs m :: l)) (owed c [] l) (by rw [owed_copy, peer_rs]) (W := W)
      (by rw [payload_s, sendPay_later P c m hm])
      (by
        rw [payload_r, recvPay_later P _ m hm, s_pts (pr (ord m) c) off' inb' hd' ho', o_pts c off inb hd ho, pr_pr]
        refine (sep_mono_left (Entails.of_eq (pointsTo_congr fun i hi => copy_os off off' inb hd inb' hd' ho ho' (acc P (m.val % 3) c) fd i hi))).trans ?_
        unfold landed
        rw [pr_pr]
        iintro ⟨H₁, H₂⟩
        isplitl [H₁]; · iexact H₁
        iexists _; iexact H₂)) $$ [Hp Hd HO HtS HtR]
  · isplitr; · iexact HIs
    isplitr; · iexact HIr
    isplitl [Hp]; · rw [o_pts c off inb hd ho]; iexact Hp
    isplitl [Hd]; · rw [s_pts (pr (ord m) c) off' inb' hd' ho']; iexact Hd
    isplitl [HO]; · iexact HO
    isplitl [HtS]; · iexact HtS
    isplitr; · iexact HrS
    isplitl [HtR]; · iexact HtR
    iexact HrR
  iintro ⟨HcS, HO⟩
  iapply Hk
  isplitl [HatS HatR HcR HcS]
  · isplitl [HatS]; · iexact HatS
    isplitl [HatR]; · iexact HatR
    isplitl [HcS]; · iexact HcS
    iexact HcR
  iexists W; iexact HO

include hh in
/-- A gather copy: rows of the result to the same rows across the axis. -/
theorem start_gather {Q : α → sProp 𝕄}
    (sem sem' : DmaSem sig) (hs : sem = sS (ag m)) (hs' : sem' = rS (ag m)) (c' : Dev nD) (hc : c' = pr (ord m) c)
    (inb : ∀ a, off a + (![h, 2048] : Fin 2 → ℕ) a ≤ (![2048, 2048] : Fin 2 → ℕ) a) (hd)
    (inb' : ∀ a, off' a + (![h, 2048] : Fin 2 → ℕ) a ≤ (![2048, 2048] : Fin 2 → ℕ) a) (hd')
    (ho : off = ![kp c m, 0]) (ho' : off' = ![kp c m, 0]) {hsc hsrc hdst hsem} :
    iprop(recs P κ ∗ tk c (ag m) ∗ oRows c (kp c m) (hgt m) (ofRC 2048 (Out P))
        ∗ (∃ f, oRows (pr (ord m) c) (kp c m) (hgt m) f) ∗ reached ER (rCell (pr (ord m) c) (ag m)) 0 ∗ ow c [] (ag m :: l))
      ⊢ iprop((iprop(fl c (ag m) ∗ ow c [] l) -∗ WP c (k ⟨⟩) Q)
        -∗ WP c (.op (.enqueueDma (oM.slice (Rect.unit (s := S2048x2048) off ![h, 2048] inb) hd)
            (.remote (c' : Thread nD τ) (oM.slice (Rect.unit (s := S2048x2048) off' ![h, 2048] inb') hd') (.dma sem) hsc) (.dma sem') hsrc hdst hsem) k) Q) := by
  subst hh hs hs' hc
  unfold ow tk fl
  rw [peer_ag]
  iintro ⟨#HR, ⟨HatS, HatR, #HrS, HtS, HtR, HcR⟩, Hp, ⟨%fd, Hd⟩, #HrR, ⟨%W, HO⟩⟩ Hk
  ihave ⟨#HIs, -⟩ := (recs_copy P κ c (ag m)) $$ HR
  ihave ⟨-, #HIr⟩ := (recs_copy P κ (pr (ord m) c) (ag m)) $$ HR
  iapply (Rounds.wp_send_pointsTo 𝒱₀ ER (Rd P) (c : Thread nD τ) none (c' := (pr (ord m) c : Thread nD τ))
      (src := oM.slice (Rect.unit (s := S2048x2048) off ![hgt m, 2048] inb) hd) (dst := oM.slice (Rect.unit (s := S2048x2048) off' ![hgt m, 2048] inb') hd')
      (sS := .dma (sS (ag m))) (sem := .dma (rS (ag m))) (q := fullShare) (fs := ofRC 2048 (Out P)) (κ₁ := κ (sCell c (ag m))) (κ₂ := κ (rCell (pr (ord m) c) (ag m)))
      (r₁ := 0) (r₂ := 0) (d₁ := 0) (d₂ := 0) (fd := fd)
      (by rw [duties_s]; exact Finset.mem_singleton_self _) (by rw [duties_r]; exact Finset.mem_singleton_self _)
      () () (amt (ag m)) (by unfold amt; rw [mOf_ag]; rfl) (amount_s P c _ 0) (amount_r P _ _ 0) (O₀ := owed c [] (ag m :: l)) (owed c [] l) (by rw [owed_copy, peer_ag]) (W := W)
      (by rw [payload_s, sendPay_ag P c m, o_pts c off inb hd ho])
      (by
        rw [payload_r, recvPay_ag P _ m, o_pts (pr (ord m) c) off' inb' hd' ho', pr_pr]
        exact Entails.of_eq (pointsTo_congr fun i hi => copy_oo off off' inb hd inb' hd' ho ho' (Out P) fd i hi))) $$ [Hp Hd HO HtS HtR]
  · isplitr; · iexact HIs
    isplitr; · iexact HIr
    isplitl [Hp]; · rw [o_pts c off inb hd ho]; iexact Hp
    isplitl [Hd]; · rw [o_pts (pr (ord m) c) off' inb' hd' ho']; iexact Hd
    isplitl [HO]; · iexact HO
    isplitl [HtS]; · iexact HtS
    isplitr; · iexact HrS
    isplitl [HtR]; · iexact HtR
    iexact HrR
  iintro ⟨HcS, HO⟩
  iapply Hk
  isplitl [HatS HatR HcR HcS]
  · isplitl [HatS]; · iexact HatS
    isplitl [HatR]; · iexact HatR
    isplitl [HcS]; · iexact HcS
    iexact HcR
  iexists W; iexact HO

end Start

/-! ## Adding what has landed -/

section Sum
variable (m : Fin 9) {h : ℕ} (hh : h = hgt m) (off off' : Fin 2 → ℕ)

/-- The step from one running sum to the next. -/
theorem acc_step (i j : ℕ) (h₁ : kp c m ≤ i) (h₂ : i < kp c m + hgt m) :
    acc P (m.val % 3 + 1) c i j = FloatOps.addf (acc P (m.val % 3) c i j) (acc P (m.val % 3) (pr (ord m) c) i j) := by
  show FloatOps.addf _ (acc P (m.val % 3) (pr (axisOf i (m.val % 3)) c) i j) = _
  rw [axisOf_rows c m i h₁ h₂]

theorem stored (inb : ∀ a, off a + (![hgt m, 2048] : Fin 2 → ℕ) a ≤ (![2048, 2048] : Fin 2 → ℕ) a)
    (inb' : ∀ a, off' a + (![hgt m, 2048] : Fin 2 → ℕ) a ≤ (![1792, 2048] : Fin 2 → ℕ) a)
    (ho : off = ![kp c m, 0]) (ho' : off' = ![sof m, 0]) (f : Shape.Idx S2048x2048 → Elt F .f32)
    (v w : Shape.Idx ⟨2, ![hgt m, 2048]⟩ → Elt F .f32)
    (hv : ∀ x, v x = ofRC 2048 (acc P (m.val % 3) c) ((Rect.unit (s := S2048x2048) off ![hgt m, 2048] inb).emb x))
    (hw : ∀ x, w x = ofRC 1792 (landed P c m) ((Rect.unit (s := S1792x2048) off' ![hgt m, 2048] inb').emb x))
    (u : Shape.Idx ⟨2, ![hgt m, 2048]⟩ → Elt F .f32) (hu : ∀ x, u x = FloatOps.addf (v x) (w x))
    (i : Shape.Idx S2048x2048) (hi : i ∈ rows 2048 (kp c m) (hgt m)) :
    (oM.access (Rect.unit (s := S2048x2048) off ![hgt m, 2048] inb)).write (Elt F) f u Finset.univ i
      = ofRC 2048 (acc P (m.val % 3 + 1) c) i := by
  refine store_o off inb ho u (acc P (m.val % 3 + 1) c) f (fun x => ?_) i hi
  obtain ⟨h₀, h₁⟩ := unit_emb off inb ho x
  obtain ⟨h₀', h₁'⟩ := unit_emb off' inb' ho' x
  have hx : (x 0).val < hgt m := (x 0).isLt
  rw [hu, hv, hw, acc_step P c m _ _ (by omega) (by omega)]
  unfold ofRC landed
  rw [h₀, h₁, h₀', h₁', show sof m + (x 0).val - sof m + kp c m = kp c m + (x 0).val by omega]

include hh in
theorem sum_first {Q : α → sProp 𝕄} (hm : ¬ later m)
    (inb : ∀ a, off a + (![h, 2048] : Fin 2 → ℕ) a ≤ (![2048, 2048] : Fin 2 → ℕ) a)
    (inb' : ∀ a, off' a + (![h, 2048] : Fin 2 → ℕ) a ≤ (![1792, 2048] : Fin 2 → ℕ) a)
    (ho : off = ![kp c m, 0]) (ho' : off' = ![sof m, 0])
    (pay : (Shape.Idx ⟨2, ![h, 2048]⟩ → Elt F .f32) → (Shape.Idx ⟨2, ![h, 2048]⟩ → Elt F .f32) → (Shape.Idx ⟨2, ![h, 2048]⟩ → Elt F .f32))
    (hpay : ∀ v w x, pay v w x = FloatOps.addf (v x) (w x)) {hl hl' hl'' hx hm'} :
    iprop(pRows c (kp c m) (hgt m) (ofRC 2048 (P c)) ∗ sRows c (sof m) (hgt m) (ofRC 1792 (landed P c m)) ∗ (∃ f, oRows c (kp c m) (hgt m) f))
      ⊢ iprop((iprop(pRows c (kp c m) (hgt m) (ofRC 2048 (P c)) ∗ (∃ f, sRows c (sof m) (hgt m) f)
          ∗ oRows c (kp c m) (hgt m) (ofRC 2048 (acc P (m.val % 3 + 1) c))) -∗ WP c (k ⟨⟩) Q)
        -∗ WP c (.op (.load pM (Rect.unit (s := S2048x2048) off ![h, 2048] inb) hl) fun v =>
            .op (.load sM (Rect.unit (s := S1792x2048) off' ![h, 2048] inb') hl') fun w =>
            .op (.load oM (Rect.unit (s := S2048x2048) off ![h, 2048] inb) hl'') fun _ =>
            .op (.store oM (Rect.unit (s := S2048x2048) off ![h, 2048] inb) (pay v w) Finset.univ hx hm') k) Q) := by
  subst hh
  iintro ⟨Hp, Hs, ⟨%f, Ho⟩⟩ Hk
  iapply (wp_load_rect 𝒱₀ (c : Thread nD τ) none Set.univ (m := pM) (r := Rect.unit (s := S2048x2048) off ![hgt m, 2048] inb)
    (S := rows 2048 (kp c m) (hgt m)) (le_of_eq (p_set off inb (fun _ => rfl) ho))) $$ Hp
  iintro Hp
  iapply (wp_load_rect 𝒱₀ (c : Thread nD τ) none Set.univ (m := sM) (r := Rect.unit (s := S1792x2048) off' ![hgt m, 2048] inb')
    (S := rows 1792 (sof m) (hgt m)) (le_of_eq (s_set off' inb' (fun _ => rfl) ho'))) $$ Hs
  iintro Hs
  iapply (wp_load_rect 𝒱₀ (c : Thread nD τ) none Set.univ (m := oM) (r := Rect.unit (s := S2048x2048) off ![hgt m, 2048] inb)
    (S := rows 2048 (kp c m) (hgt m)) (le_of_eq (o_set off inb (fun _ => rfl) ho))) $$ Ho
  iintro Ho
  iapply (wp_store 𝒱₀ (c : Thread nD τ) none Set.univ (m := oM) (r := Rect.unit (s := S2048x2048) off ![hgt m, 2048] inb)
    (S := rows 2048 (kp c m) (hgt m)) (le_of_eq (o_set off inb (fun _ => rfl) ho))) $$ Ho
  iintro Ho
  iapply Hk
  isplitl [Hp]; · iexact Hp
  isplitl [Hs]; · iexists _; iexact Hs
  iapply (Entails.of_eq (pointsTo_congr (g := ofRC 2048 (acc P (m.val % 3 + 1) c)) fun i hi =>
    stored P c m off off' inb inb' ho ho' f _ _ (fun x => by rw [show m.val % 3 = 0 from not_not.mp hm]) (fun x => rfl) _ (hpay _ _) i hi))
  iexact Ho

include hh in
theorem sum_later {Q : α → sProp 𝕄}
    (inb : ∀ a, off a + (![h, 2048] : Fin 2 → ℕ) a ≤ (![2048, 2048] : Fin 2 → ℕ) a)
    (inb' : ∀ a, off' a + (![h, 2048] : Fin 2 → ℕ) a ≤ (![1792, 2048] : Fin 2 → ℕ) a)
    (ho : off = ![kp c m, 0]) (ho' : off' = ![sof m, 0])
    (pay : (Shape.Idx ⟨2, ![h, 2048]⟩ → Elt F .f32) → (Shape.Idx ⟨2, ![h, 2048]⟩ → Elt F .f32) → (Shape.Idx ⟨2, ![h, 2048]⟩ → Elt F .f32))
    (hpay : ∀ v w x, pay v w x = FloatOps.addf (v x) (w x)) {hl hl' hl'' hx hm'} :
    iprop(oRows c (kp c m) (hgt m) (ofRC 2048 (acc P (m.val % 3) c)) ∗ sRows c (sof m) (hgt m) (ofRC 1792 (landed P c m)))
      ⊢ iprop((iprop((∃ f, sRows c (sof m) (hgt m) f)
          ∗ oRows c (kp c m) (hgt m) (ofRC 2048 (acc P (m.val % 3 + 1) c))) -∗ WP c (k ⟨⟩) Q)
        -∗ WP c (.op (.load oM (Rect.unit (s := S2048x2048) off ![h, 2048] inb) hl) fun v =>
            .op (.load sM (Rect.unit (s := S1792x2048) off' ![h, 2048] inb') hl') fun w =>
            .op (.load oM (Rect.unit (s := S2048x2048) off ![h, 2048] inb) hl'') fun _ =>
            .op (.store oM (Rect.unit (s := S2048x2048) off ![h, 2048] inb) (pay v w) Finset.univ hx hm') k) Q) := by
  subst hh
  iintro ⟨Ho, Hs⟩ Hk
  iapply (wp_load_rect 𝒱₀ (c : Thread nD τ) none Set.univ (m := oM) (r := Rect.unit (s := S2048x2048) off ![hgt m, 2048] inb)
    (S := rows 2048 (kp c m) (hgt m)) (le_of_eq (o_set off inb (fun _ => rfl) ho))) $$ Ho
  iintro Ho
  iapply (wp_load_rect 𝒱₀ (c : Thread nD τ) none Set.univ (m := sM) (r := Rect.unit (s := S1792x2048) off' ![hgt m, 2048] inb')
    (S := rows 1792 (sof m) (hgt m)) (le_of_eq (s_set off' inb' (fun _ => rfl) ho'))) $$ Hs
  iintro Hs
  iapply (wp_load_rect 𝒱₀ (c : Thread nD τ) none Set.univ (m := oM) (r := Rect.unit (s := S2048x2048) off ![hgt m, 2048] inb)
    (S := rows 2048 (kp c m) (hgt m)) (le_of_eq (o_set off inb (fun _ => rfl) ho))) $$ Ho
  iintro Ho
  iapply (wp_store 𝒱₀ (c : Thread nD τ) none Set.univ (m := oM) (r := Rect.unit (s := S2048x2048) off ![hgt m, 2048] inb)
    (S := rows 2048 (kp c m) (hgt m)) (le_of_eq (o_set off inb (fun _ => rfl) ho))) $$ Ho
  iintro Ho
  iapply Hk
  isplitl [Hs]; · iexists _; iexact Hs
  iapply (Entails.of_eq (pointsTo_congr (g := ofRC 2048 (acc P (m.val % 3 + 1) c)) fun i hi =>
    stored P c m off off' inb inb' ho ho' _ _ _ (fun x => rfl) (fun x => rfl) _ (hpay _ _) i hi))
  iexact Ho

end Sum

end Cert.KernelIdeal.AllReduce
-- ==== Proof.KernelIdeal.Split.lean ====
/- Buffers cut into the runs of rows the all-reduce moves, and joined again; both waits of a copy, and what is done with what
   it brought. -/
module

public import proofs.«01_k».proof.Proof.KernelIdeal.Copies
public import Idealize.ShloMosaic.Lib.Ring

@[expose] public section

noncomputable section

namespace Cert.KernelIdeal.AllReduce

open Idealize.ShloMosaic Idealize.ShloMosaic.TcCoe
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → ℕ → ℕ → Elt F .f32) (κ : GSem nD τ sig → ℕ) (c : Dev nD)

/-! ## The buffers whole -/

abbrev pAll (f : Shape.Idx S2048x2048 → Elt F .f32) : sProp 𝕄 := pM.view.loc (c : Thread nD τ) ↦{fullShare} f
abbrev oAll (f : Shape.Idx S2048x2048 → Elt F .f32) : sProp 𝕄 := oM.view.loc (c : Thread nD τ) ↦{fullShare} f
abbrev sAll (f : Shape.Idx S1792x2048 → Elt F .f32) : sProp 𝕄 := sM.view.loc (c : Thread nD τ) ↦{fullShare} f

theorem glo_sep : ∀ g g' : Fin 3, g ≠ g' → glo g + ghi g ≤ glo g' ∨ glo g' + ghi g' ≤ glo g := by decide +kernel
theorem glo_all : ∀ r : Fin 2048, ∃ g : Fin 3, glo g ≤ r.val ∧ r.val < glo g + ghi g := by decide +kernel
theorem sof_all : ∀ r : Fin 1792, ∃ m : Fin 9, sof m ≤ r.val ∧ r.val < sof m + hgt m := by decide +kernel

theorem groups_disjoint (g g' : Fin 3) (h : g ≠ g') : Disjoint (rows 2048 (glo g) (ghi g)) (rows 2048 (glo g') (ghi g')) :=
  rows_disjoint (glo_sep g g' h)
theorem slots_disjoint (m m' : Fin 9) (h : m ≠ m') : Disjoint (rows 1792 (sof m) (hgt m)) (rows 1792 (sof m') (hgt m')) :=
  rows_disjoint (sof_sep m m' h)

section Cover
theorem o_cover : Finset.univ.biUnion (fun g : Fin 3 => (rows 2048 (glo g) (ghi g) : Finset (Shape.Idx S2048x2048))) = Finset.univ := by
  refine Finset.eq_univ_iff_forall.mpr fun i => ?_
  obtain ⟨g, hg⟩ := glo_all (i 0)
  exact Finset.mem_biUnion.mpr ⟨g, Finset.mem_univ _, mem_rows.mpr hg⟩
theorem p_cover : Finset.univ.biUnion (fun g : Fin 3 => (rows 2048 (glo g) (ghi g) : Finset (Shape.Idx S2048x2048))) = Finset.univ := by
  refine Finset.eq_univ_iff_forall.mpr fun i => ?_
  obtain ⟨g, hg⟩ := glo_all (i 0)
  exact Finset.mem_biUnion.mpr ⟨g, Finset.mem_univ _, mem_rows.mpr hg⟩
theorem s_cover : Finset.univ.biUnion (fun m : Fin 9 => (rows 1792 (sof m) (hgt m) : Finset (Shape.Idx S1792x2048))) = Finset.univ := by
  refine Finset.eq_univ_iff_forall.mpr fun i => ?_
  obtain ⟨m, hm⟩ := sof_all (i 0)
  exact Finset.mem_biUnion.mpr ⟨m, Finset.mem_univ _, mem_rows.mpr hm⟩
end Cover

theorem pair_sep (m : Fin 9) : kp c m + hgt m ≤ kp (pr (ord m) c) m ∨ kp (pr (ord m) c) m + hgt m ≤ kp c m := by
  revert c m; decide +kernel

/-- The rows before a step are the rows kept and the rows sent. -/
theorem o_half (m : Fin 9) (hm : later m) (f : Shape.Idx S2048x2048 → Elt F .f32) :
    oRows c (kp c (prev m)) (hgt (prev m)) f ⊣⊢ iprop(oRows c (kp c m) (hgt m) f ∗ oRows c (kp (pr (ord m) c) m) (hgt m) f) := by
  unfold oRows
  rw [rows_union (hgt_prev m hm) (halves c m hm)]
  exact pointsTo_union (rows_disjoint (pair_sep c m))

theorem o_pair (g : Fin 3) (f : Shape.Idx S2048x2048 → Elt F .f32) :
    (oM.view.loc (c : Thread nD τ) ↦[rows 2048 (glo g) (ghi g)]{fullShare} f : sProp 𝕄)
      ⊣⊢ iprop(oRows c (kp c (fst g)) (hgt (fst g)) f ∗ oRows c (kp (pr (ord (fst g)) c) (fst g)) (hgt (fst g)) f) := by
  rw [rows_union (halves_fst c g).1 (halves_fst c g).2]
  exact pointsTo_union (rows_disjoint (pair_sep c (fst g)))
theorem p_pair (g : Fin 3) (f : Shape.Idx S2048x2048 → Elt F .f32) :
    (pM.view.loc (c : Thread nD τ) ↦[rows 2048 (glo g) (ghi g)]{fullShare} f : sProp 𝕄)
      ⊣⊢ iprop(pRows c (kp c (fst g)) (hgt (fst g)) f ∗ pRows c (kp (pr (ord (fst g)) c) (fst g)) (hgt (fst g)) f) := by
  rw [rows_union (halves_fst c g).1 (halves_fst c g).2]
  exact pointsTo_union (rows_disjoint (pair_sep c (fst g)))

/-- The rows of a group in its two halves. -/
abbrev oTwo (m : Fin 9) (f : Shape.Idx S2048x2048 → Elt F .f32) : sProp 𝕄 :=
  iprop(oRows c (kp c m) (hgt m) f ∗ oRows c (kp (pr (ord m) c) m) (hgt m) f)
abbrev pTwo (m : Fin 9) (f : Shape.Idx S2048x2048 → Elt F .f32) : sProp 𝕄 :=
  iprop(pRows c (kp c m) (hgt m) f ∗ pRows c (kp (pr (ord m) c) m) (hgt m) f)

theorem o_split (f : Shape.Idx S2048x2048 → Elt F .f32) : oAll c f ⊣⊢ iprop(oTwo c 0 f ∗ oTwo c 3 f ∗ oTwo c 6 f) := by
  rw [show (oAll c f : sProp 𝕄) = _ from Ring.pointsTo_blocks (ℓ := oM.view.loc (c : Thread nD τ)) (fun g : Fin 3 => rows 2048 (glo g) (ghi g)) groups_disjoint o_cover f, Ring.bigSep_fin3]
  exact sep_congr (o_pair c 0 f) (sep_congr (o_pair c 1 f) (o_pair c 2 f))
theorem p_split (f : Shape.Idx S2048x2048 → Elt F .f32) : pAll c f ⊣⊢ iprop(pTwo c 0 f ∗ pTwo c 3 f ∗ pTwo c 6 f) := by
  rw [show (pAll c f : sProp 𝕄) = _ from Ring.pointsTo_blocks (ℓ := pM.view.loc (c : Thread nD τ)) (fun g : Fin 3 => rows 2048 (glo g) (ghi g)) groups_disjoint p_cover f, Ring.bigSep_fin3]
  exact sep_congr (p_pair c 0 f) (sep_congr (p_pair c 1 f) (p_pair c 2 f))

/-- What a device holds of scratch for one copy. -/
abbrev slot (m : Fin 9) : sProp 𝕄 := iprop(∃ f, sRows c (sof m) (hgt m) f)

theorem s_split (f : Shape.Idx S1792x2048 → Elt F .f32) : (sAll c f : sProp 𝕄) ⊢ bigSep Finset.univ fun m : Fin 9 => slot c m := by
  rw [show (sAll c f : sProp 𝕄) = _ from Ring.pointsTo_blocks (ℓ := sM.view.loc (c : Thread nD τ)) (fun m : Fin 9 => rows 1792 (sof m) (hgt m)) slots_disjoint s_cover f]
  refine bigSep_mono fun m _ => ?_
  show (sRows c (sof m) (hgt m) f : sProp 𝕄) ⊢ iprop(∃ f, sRows c (sof m) (hgt m) f)
  iintro H; iexists f; iexact H
theorem s_join [Nonempty (Elt F .f32)] : (bigSep Finset.univ fun m : Fin 9 => slot c m) ⊢ (iprop(∃ f, sAll c f) : sProp 𝕄) :=
  Ring.pointsTo_blocks_join_exists (ℓ := sM.view.loc (c : Thread nD τ)) (fun m : Fin 9 => rows 1792 (sof m) (hgt m)) slots_disjoint s_cover (fun _ => Classical.arbitrary _)

/-- The sums after the last step are the result. -/
theorem o_final (m : Fin 9) (hm : last m) :
    (oRows c (kp c m) (hgt m) (ofRC 2048 (acc P 3 c)) : sProp 𝕄) = oRows c (kp c m) (hgt m) (ofRC 2048 (Out P)) :=
  pointsTo_congr fun i hi => by
    obtain ⟨h₁, h₂⟩ := mem_rows.mp hi
    show _ = acc P 3 (own (i 0).val) _ _
    rw [own_rows c m hm _ h₁ h₂]; rfl

/-! ## The barrier's payloads -/

theorem barPay_give (a : Fin 3) :
    (iprop(room c (ms a 0) ∗ room c (ms a 1) ∗ room c (ms a 2) ∗ ∃ f, oRows c (kp (pr a c) (m₀ a)) (hgt (m₀ a)) f) : sProp 𝕄) = barPay (pr a c) a := by
  unfold barPay; rw [pr_pr]

/-- The rooms a device gives out, from its scratch. -/
theorem rooms (f : Shape.Idx S1792x2048 → Elt F .f32) :
    iprop(sAll c f ∗ bigSep Finset.univ fun q : Fin 18 => reached ER (rCell c q) 0) ⊢ (bigSep Finset.univ fun m : Fin 9 => room c m : sProp 𝕄) := by
  refine (sep_comm.1.trans (sep_mono_right (s_split c f))).trans (bigSep_with_persistent fun m _ => ?_)
  have h (q : Fin 18) : (bigSep Finset.univ fun q : Fin 18 => reached ER (rCell c q) 0 : sProp 𝕄) ⊢ reached ER (rCell c q) 0 :=
    bigSep_elim (Finset.mem_univ q)
  unfold room slot
  iintro ⟨#HR, H⟩
  isplitl [H]; · iexact H
  isplitr
  · iapply (show _ ⊢ _ from h (rs m)); iexact HR
  · iapply (show _ ⊢ _ from h (ag m)); iexact HR

/-! ## Both waits of a copy, and what follows them -/

section Finish
variable {α : Type} {k : PUnit → Prog (TpuEff nD τ sig (Elt F) Λ₀ .tc) α} (m : Fin 9) (l : List (Fin 18)) {h : ℕ} (hh : h = hgt m)
  (off off' : Fin 2 → ℕ)
  {sp sp' sp₁ sp₁' : Space} {s s' s₁ s₁' : Shape} {e e' e₁ e₁' : EltTy} {κ' κ₁' : Kind}
  {src : Memref sig .tc sp' s' e'} {dst : Memref sig κ' sp s e} {src₁ : Memref sig .tc sp₁' s₁' e₁'} {dst₁ : Memref sig κ₁' sp₁ s₁ e₁}
  {hsrc : src.view.WordExact} {hdst : dst.view.WordExact} {hsrc₁ : src₁.view.WordExact} {hdst₁ : dst₁.view.WordExact}
  (hN : dst.view.dmaCredit = Idealize.ShloMosaic.RefSig.tileCredit ⟨2, ![h, 2048]⟩ .f32)
  (hN₁ : dst₁.view.dmaCredit = Idealize.ShloMosaic.RefSig.tileCredit ⟨2, ![h, 2048]⟩ .f32)

include hh hN hN₁ in
theorem finish_gather {Q : α → sProp 𝕄} (hl : ∀ q ∈ l, 0 < lvq q) (hl' : ∀ q ∈ l, lvq (ag m) < lvq q)
    (sem sem' : DmaSem sig) (hs : sem = sS (ag m)) (hs' : sem' = rS (ag m)) :
    iprop(recs P κ ∗ levAts L lv ∗ fl c (ag m) ∗ ow c [] l)
      ⊢ iprop((iprop(dn c (ag m) ∗ oRows c (kp c m) (hgt m) (ofRC 2048 (Out P)) ∗ oRows c (kp (pr (ord m) c) m) (hgt m) (ofRC 2048 (Out P)) ∗ ow c [] l) -∗ WP c (k ⟨⟩) Q)
        -∗ WP c (.op (.waitDma2 sem src dst hsrc hdst) fun _ => .op (.waitDma2 sem' src₁ dst₁ hsrc₁ hdst₁) k) Q) := by
  subst hh
  have hN' := hN.trans (show _ = amt (ag m) by unfold amt; rw [mOf_ag])
  have hN₁' := hN₁.trans (show _ = amt (ag m) by unfold amt; rw [mOf_ag])
  iintro ⟨#HR, #Hlev, Hf, HO⟩ Hk
  iapply (wait_s P κ c (ag m) l hl sem hs hN') $$ [Hf HO]
  · isplitr; · iexact HR
    isplitr; · iexact Hlev
    isplitl [Hf] <;> iassumption
  iintro ⟨Ht, Hs, HO⟩
  iapply (wait_r P κ c (ag m) l hl' sem' hs' hN₁') $$ [Ht HO]
  · isplitr; · iexact HR
    isplitr; · iexact Hlev
    isplitl [Ht] <;> iassumption
  iintro ⟨Hd, Hr, HO⟩
  ihave Hs := (Entails.of_eq (sendPay_ag P c m)) $$ Hs
  ihave Hr := (Entails.of_eq (recvPay_ag P c m)) $$ Hr
  iapply Hk
  isplitl [Hd]; · iexact Hd
  isplitl [Hs]; · iexact Hs
  isplitl [Hr]; · iexact Hr
  iexact HO

variable (inb : ∀ a, off a + (![h, 2048] : Fin 2 → ℕ) a ≤ (![2048, 2048] : Fin 2 → ℕ) a)
    (inb' : ∀ a, off' a + (![h, 2048] : Fin 2 → ℕ) a ≤ (![1792, 2048] : Fin 2 → ℕ) a)
    (pay : (Shape.Idx ⟨2, ![h, 2048]⟩ → Elt F .f32) → (Shape.Idx ⟨2, ![h, 2048]⟩ → Elt F .f32) → (Shape.Idx ⟨2, ![h, 2048]⟩ → Elt F .f32))
    (hpay : ∀ v w x, pay v w x = FloatOps.addf (v x) (w x))

include hh hN hN₁ hpay in
theorem finish_first {Q : α → sProp 𝕄} (hm : ¬ later m) (hl : ∀ q ∈ l, 0 < lvq q) (hl' : ∀ q ∈ l, lvq (rs m) < lvq q)
    (sem sem' : DmaSem sig) (hs : sem = sS (rs m)) (hs' : sem' = rS (rs m)) (ho : off = ![kp c m, 0]) (ho' : off' = ![sof m, 0]) {h₁ h₂ h₃ hx hm'} :
    iprop(recs P κ ∗ levAts L lv ∗ fl c (rs m) ∗ pRows c (kp c m) (hgt m) (ofRC 2048 (P c)) ∗ (∃ f, oRows c (kp c m) (hgt m) f) ∗ ow c [] l)
      ⊢ iprop((iprop(dn c (rs m) ∗ pTwo c m (ofRC 2048 (P c)) ∗ slot c m
            ∗ oRows c (kp c m) (hgt m) (ofRC 2048 (acc P (m.val % 3 + 1) c)) ∗ ow c [] l) -∗ WP c (k ⟨⟩) Q)
        -∗ WP c (.op (.waitDma2 sem src dst hsrc hdst) fun _ => .op (.waitDma2 sem' src₁ dst₁ hsrc₁ hdst₁) fun _ =>
            .op (.load pM (Rect.unit (s := S2048x2048) off ![h, 2048] inb) h₁) fun v =>
            .op (.load sM (Rect.unit (s := S1792x2048) off' ![h, 2048] inb') h₂) fun w =>
            .op (.load oM (Rect.unit (s := S2048x2048) off ![h, 2048] inb) h₃) fun _ =>
            .op (.store oM (Rect.unit (s := S2048x2048) off ![h, 2048] inb) (pay v w) Finset.univ hx hm') k) Q) := by
  have hN' := hN.trans (show _ = amt (rs m) by unfold amt; rw [mOf_rs, hh])
  have hN₁' := hN₁.trans (show _ = amt (rs m) by unfold amt; rw [mOf_rs, hh])
  iintro ⟨#HR, #Hlev, Hf, Hp, Ho, HO⟩ Hk
  iapply (wait_s P κ c (rs m) l hl sem hs hN') $$ [Hf HO]
  · isplitr; · iexact HR
    isplitr; · iexact Hlev
    isplitl [Hf] <;> iassumption
  iintro ⟨Ht, Hs, HO⟩
  iapply (wait_r P κ c (rs m) l hl' sem' hs' hN₁') $$ [Ht HO]
  · isplitr; · iexact HR
    isplitr; · iexact Hlev
    isplitl [Ht] <;> iassumption
  iintro ⟨Hd, Hr, HO⟩
  ihave Hs := (Entails.of_eq (sendPay_first P c m hm)) $$ Hs
  ihave Hr := (Entails.of_eq (recvPay_first P c m hm)) $$ Hr
  iapply (sum_first P c m hh off off' hm inb inb' ho ho' pay hpay) $$ [Hp Hr Ho]
  · isplitl [Hp]; · iexact Hp
    isplitl [Hr] <;> iassumption
  iintro ⟨Hp, Hr, Ho⟩
  iapply Hk
  unfold pTwo slot
  isplitl [Hd]; · iexact Hd
  isplitl [Hp Hs]; · isplitl [Hp] <;> iassumption
  isplitl [Hr]; · iexact Hr
  isplitl [Ho]; · iexact Ho
  iexact HO

include hh hN hN₁ hpay in
theorem finish_later {Q : α → sProp 𝕄} (hm : later m) (hl : ∀ q ∈ l, 0 < lvq q) (hl' : ∀ q ∈ l, lvq (rs m) < lvq q)
    (sem sem' : DmaSem sig) (hs : sem = sS (rs m)) (hs' : sem' = rS (rs m)) (ho : off = ![kp c m, 0]) (ho' : off' = ![sof m, 0]) {h₁ h₂ h₃ hx hm'} :
    iprop(recs P κ ∗ levAts L lv ∗ fl c (rs m) ∗ oRows c (kp c m) (hgt m) (ofRC 2048 (acc P (m.val % 3) c)) ∗ ow c [] l)
      ⊢ iprop((iprop(dn c (rs m) ∗ slot c m ∗ oRows c (kp c m) (hgt m) (ofRC 2048 (acc P (m.val % 3 + 1) c))
            ∗ (∃ f, oRows (pr (ord m) c) (kp c m) (hgt m) f) ∗ ow c [] l) -∗ WP c (k ⟨⟩) Q)
        -∗ WP c (.op (.waitDma2 sem src dst hsrc hdst) fun _ => .op (.waitDma2 sem' src₁ dst₁ hsrc₁ hdst₁) fun _ =>
            .op (.load oM (Rect.unit (s := S2048x2048) off ![h, 2048] inb) h₁) fun v =>
            .op (.load sM (Rect.unit (s := S1792x2048) off' ![h, 2048] inb') h₂) fun w =>
            .op (.load oM (Rect.unit (s := S2048x2048) off ![h, 2048] inb) h₃) fun _ =>
            .op (.store oM (Rect.unit (s := S2048x2048) off ![h, 2048] inb) (pay v w) Finset.univ hx hm') k) Q) := by
  have hN' := hN.trans (show _ = amt (rs m) by unfold amt; rw [mOf_rs, hh])
  have hN₁' := hN₁.trans (show _ = amt (rs m) by unfold amt; rw [mOf_rs, hh])
  iintro ⟨#HR, #Hlev, Hf, Ho, HO⟩ Hk
  iapply (wait_s P κ c (rs m) l hl sem hs hN') $$ [Hf HO]
  · isplitr; · iexact HR
    isplitr; · iexact Hlev
    isplitl [Hf] <;> iassumption
  iintro ⟨Ht, -, HO⟩
  iapply (wait_r P κ c (rs m) l hl' sem' hs' hN₁') $$ [Ht HO]
  · isplitr; · iexact HR
    isplitr; · iexact Hlev
    isplitl [Ht] <;> iassumption
  iintro ⟨Hd, Hr, HO⟩
  ihave Hr := (Entails.of_eq (recvPay_later P c m hm)) $$ Hr
  icases Hr with ⟨Hr, Hg⟩
  iapply (sum_later P c m hh off off' inb inb' ho ho' pay hpay) $$ [Hr Ho]
  · isplitl [Ho] <;> iassumption
  iintro ⟨Hr, Ho⟩
  iapply Hk
  unfold slot
  isplitl [Hd]; · iexact Hd
  isplitl [Hr]; · iexact Hr
  isplitl [Ho]; · iexact Ho
  isplitl [Hg]; · iexact Hg
  iexact HO

end Finish

end Cert.KernelIdeal.AllReduce
-- ==== Proof.KernelIdeal.Run.lean ====
/- The all-reduce's body at one device, run once: from what the device holds before the barrier to what it holds after the last
   wait. -/
module

public import proofs.«01_k».proof.Proof.KernelIdeal.Split
public import proofs.«01_k».proof.Proof.Gen.KernelIdeal.Skeleton
public import Idealize.ShloMosaic.Lib.Pipeline.Value

@[expose] public section

noncomputable section

namespace Cert.KernelIdeal.AllReduce

open Idealize.ShloMosaic Idealize.ShloMosaic.TcCoe
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Cert.KernelIdeal Cert.KernelIdeal.Gen

variable {F : FTy → Type} [FloatOps F]

local notation "𝕄" => MT nD τ sig Unit (Elt F) ℕ UU ℕ

/-! ## The offsets and devices the program computes -/

def sentAt (c : Dev nD) : Fin 9 → Fin 2 → ℕ := ![k1_off1 c, k1_off5 c, k1_off9 c, k1_off2 c 768#32 2#32, k1_off6 c 768#32 2#32 1#32, k1_off10 c 768#32 2#32 1#32 4#32, k1_off2 c 1408#32 1#32, k1_off6 c 1408#32 1#32 4#32, k1_off10 c 1408#32 1#32 4#32 2#32]
def keptAt (c : Dev nD) : Fin 9 → Fin 2 → ℕ := ![k1_off3 c, k1_off7 c, k1_off11 c, k1_off4 c 768#32 2#32, k1_off8 c 768#32 2#32 1#32, k1_off12 c 768#32 2#32 1#32 4#32, k1_off4 c 1408#32 1#32, k1_off8 c 1408#32 1#32 4#32, k1_off12 c 1408#32 1#32 4#32 2#32]
def gathAt (c : Dev nD) : Fin 9 → Fin 2 → ℕ := ![k1_off17 c, k1_off15 c, k1_off13 c, k1_off18 c 768#32 2#32, k1_off16 c 768#32 2#32 1#32, k1_off14 c 768#32 2#32 1#32 4#32, k1_off18 c 1408#32 1#32, k1_off16 c 1408#32 1#32 4#32, k1_off14 c 1408#32 1#32 4#32 2#32]
def scatTo (c : Dev nD) : Fin 9 → Dev nD := ![⟨k1_dev4 c, k1_dev4_lt c⟩, ⟨k1_dev7 c, k1_dev7_lt c⟩, ⟨k1_dev10 c, k1_dev10_lt c⟩, ⟨k1_dev5 c, k1_dev5_lt c⟩, ⟨k1_dev8 c, k1_dev8_lt c⟩, ⟨k1_dev11 c, k1_dev11_lt c⟩, ⟨k1_dev6 c, k1_dev6_lt c⟩, ⟨k1_dev9 c, k1_dev9_lt c⟩, ⟨k1_dev12 c, k1_dev12_lt c⟩]
def gathTo (c : Dev nD) : Fin 9 → Dev nD := ![⟨k1_dev19 c, k1_dev19_lt c⟩, ⟨k1_dev16 c, k1_dev16_lt c⟩, ⟨k1_dev13 c, k1_dev13_lt c⟩, ⟨k1_dev20 c, k1_dev20_lt c⟩, ⟨k1_dev17 c, k1_dev17_lt c⟩, ⟨k1_dev14 c, k1_dev14_lt c⟩, ⟨k1_dev21 c, k1_dev21_lt c⟩, ⟨k1_dev18 c, k1_dev18_lt c⟩, ⟨k1_dev15 c, k1_dev15_lt c⟩]
def barTo (c : Dev nD) : Fin 3 → Dev nD := ![⟨k1_dev1 c, k1_dev1_lt c⟩, ⟨k1_dev2 c, k1_dev2_lt c⟩, ⟨k1_dev3 c, k1_dev3_lt c⟩]
theorem sentAt_eq : ∀ (c : Dev nD) (m : Fin 9), sentAt c m = ![kp (pr (ord m) c) m, 0] := by decide +kernel
theorem keptAt_eq : ∀ (c : Dev nD) (m : Fin 9), keptAt c m = ![kp c m, 0] := by decide +kernel
theorem gathAt_eq : ∀ (c : Dev nD) (m : Fin 9), gathAt c m = ![kp c m, 0] := by decide +kernel
theorem scatTo_eq : ∀ (c : Dev nD) (m : Fin 9), scatTo c m = pr (ord m) c := by decide +kernel
theorem gathTo_eq : ∀ (c : Dev nD) (m : Fin 9), gathTo c m = pr (ord m) c := by decide +kernel
theorem barTo_eq : ∀ (c : Dev nD) (a : Fin 3), barTo c a = pr a c := by decide +kernel

/-- What a store writes is the sum of the two loads, element by element. -/
theorem add_pay {s : Shape} (v w : Shape.Idx s → Elt F .f32) (x : Shape.Idx s) (hc : s.ShapeCasts s) :
    addf (shapeCast s v hc : FVec F s .f32) w x = FloatOps.addf (v x) (w x) := by
  rw [shapeCast_self]; rfl

/-! ## The order of the copies -/

/-- The order the copies are started in. -/
def order : List (Fin 18) := [rs 0, rs 3, rs 6, rs 1, rs 4, rs 7, rs 2, rs 5, rs 8, ag 2, ag 5, ag 8, ag 1, ag 4, ag 7, ag 0, ag 3, ag 6]
def todo (n : ℕ) : List (Fin 18) := order.drop n

theorem each {Φ : Fin 18 → sProp 𝕄} : bigSep Finset.univ Φ = iprop(Φ (rs 0) ∗ Φ (rs 3) ∗ Φ (rs 6) ∗ Φ (rs 1) ∗ Φ (rs 4) ∗ Φ (rs 7) ∗ Φ (rs 2) ∗ Φ (rs 5) ∗ Φ (rs 8) ∗ Φ (ag 2) ∗ Φ (ag 5) ∗ Φ (ag 8) ∗ Φ (ag 1) ∗ Φ (ag 4) ∗ Φ (ag 7) ∗ Φ (ag 0) ∗ Φ (ag 3) ∗ Φ (ag 6)) :=
  bigSep_univ_eq_bigSepL order (by decide +kernel) (by decide +kernel) Φ
theorem each_slot {Φ : Fin 9 → sProp 𝕄} : bigSep Finset.univ Φ = iprop(Φ 0 ∗ Φ 5 ∗ Φ 7 ∗ Φ 1 ∗ Φ 3 ∗ Φ 8 ∗ Φ 2 ∗ Φ 4 ∗ Φ 6) :=
  bigSep_univ_eq_bigSepL [0, 5, 7, 1, 3, 8, 2, 4, 6] (by decide +kernel) (by decide +kernel) Φ

variable (P : Dev nD → ℕ → ℕ → Elt F .f32) (κ : GSem nD τ sig → ℕ) (c : Dev nD)

/-- A peer's room for copy `m`, its parts in view. -/
abbrev place (m : Fin 9) : sProp 𝕄 :=
  iprop((∃ f, sRows (pr (ord m) c) (sof m) (hgt m) f) ∗ reached ER (rCell (pr (ord m) c) (rs m)) 0 ∗ reached ER (rCell (pr (ord m) c) (ag m)) 0)
theorem barPay_0 : barPay c 0 ⊢ (iprop(place c 0 ∗ place c 5 ∗ place c 7 ∗ ∃ f, oRows (pr (ord 0) c) (kp c 0) (hgt 0) f) : sProp 𝕄) := .rfl
theorem barPay_1 : barPay c 1 ⊢ (iprop(place c 1 ∗ place c 3 ∗ place c 8 ∗ ∃ f, oRows (pr (ord 3) c) (kp c 3) (hgt 3) f) : sProp 𝕄) := .rfl
theorem barPay_2 : barPay c 2 ⊢ (iprop(place c 2 ∗ place c 4 ∗ place c 6 ∗ ∃ f, oRows (pr (ord 6) c) (kp c 6) (hgt 6) f) : sProp 𝕄) := .rfl

theorem cut (m m' : Fin 9) (hm : later m') (hp : prev m' = m) (hn : m.val % 3 + 1 = m'.val % 3) :
    (oRows c (kp c m) (hgt m) (ofRC 2048 (acc P (m.val % 3 + 1) c)) : sProp 𝕄)
      ⊢ iprop(oRows c (kp c m') (hgt m') (ofRC 2048 (acc P (m'.val % 3) c))
        ∗ oRows c (kp (pr (ord m') c) m') (hgt m') (ofRC 2048 (acc P (m'.val % 3) c))) := by
  subst hp; rw [hn]; exact (o_half c m' hm _).1
theorem joined (m m' : Fin 9) (hm : later m') (hp : prev m' = m) (f : Shape.Idx S2048x2048 → Elt F .f32) :
    (iprop(oRows c (kp c m') (hgt m') f ∗ oRows c (kp (pr (ord m') c) m') (hgt m') f) : sProp 𝕄) ⊢ oRows c (kp c m) (hgt m) f := by
  subst hp; exact (o_half c m' hm _).2
theorem summed (m : Fin 9) (hm : last m) :
    (oRows c (kp c m) (hgt m) (ofRC 2048 (acc P (m.val % 3 + 1) c)) : sProp 𝕄) ⊢ oRows c (kp c m) (hgt m) (ofRC 2048 (Out P)) := by
  rw [show m.val % 3 + 1 = 3 from congrArg (· + 1) hm, o_final P c m hm]

theorem ret_step (Q : PUnit → sProp 𝕄) : (Q ⟨⟩ : sProp 𝕄) ⊢ WP c (.ret ⟨⟩) Q := by
  unfold WP; rw [wp_ret]; iintro H; imodintro; iexact H

/-! ## Before and after -/

def runPre : sProp 𝕄 :=
  iprop(recs P κ ∗ levAts L lv ∗ atPos ER (barCell c) 0 ∅ 0 ∗ cred (tallyAt (barCell c) () 3)
    ∗ (dutyTok ER (barCell (pr 0 c)) 0 0 ∗ dutyTok ER (barCell (pr 1 c)) 0 1 ∗ dutyTok ER (barCell (pr 2 c)) 0 2)
    ∗ (bigSep Finset.univ fun q : Fin 18 => tk c q) ∗ (bigSep Finset.univ fun q : Fin 18 => reached ER (rCell c q) 0)
    ∗ pAll c (ofRC 2048 (P c)) ∗ (∃ f, oAll c f) ∗ (∃ f, sAll c f) ∗ ow c [0, 1, 2] (todo 0))

def runPost : sProp 𝕄 :=
  iprop((bigSep Finset.univ fun q : Fin 18 => dn c q) ∗ atPos ER (barCell c) (0 + 1) ∅ 0
    ∗ pAll c (ofRC 2048 (P c)) ∗ oAll c (ofRC 2048 (Out P)) ∗ (∃ f, sAll c f) ∗ ow c [] [])

set_option maxHeartbeats 4000000 in
theorem run [Nonempty (Elt F .f32)] (Q : PUnit → sProp 𝕄) :
    iprop(runPre P κ c ∗ (runPost P c -∗ Q ⟨⟩)) ⊢ wp frame (wpE (defs₀ (F := F)) 𝒱₀ (c : Thread nD τ) none) Set.univ
      (cc1_body pM (Memref.isWhole_whole _) oM (Memref.isWhole_whole _) sM (Memref.isWhole_whole _) cc1_scratch1 cc1_scratch2) Q := by
  unfold runPre
  iintro ⟨⟨#HR, #Hlev, Hbar, Hcb, ⟨Hd0, Hd1, Hd2⟩, HT, #Hre, Hp, ⟨%fo, Ho⟩, ⟨%fs, Hs⟩, HO⟩, HQ⟩
  ihave HT := (Entails.of_eq each) $$ HT
  icases HT with ⟨T0, T3, T6, T1, T4, T7, T2, T5, T8, U2, U5, U8, U1, U4, U7, U0, U3, U6⟩
  ihave Hs := (rooms c fs) $$ [Hs]
  · isplitl; · iexact Hs
    iexact Hre
  ihave Hs := (Entails.of_eq each_slot) $$ Hs
  icases Hs with ⟨R0, R5, R7, R1, R3, R8, R2, R4, R6⟩
  ihave Ho := (o_split c fo).1 $$ Ho
  icases Ho with ⟨⟨K0, L0⟩, ⟨K3, L3⟩, ⟨K6, L6⟩⟩
  ihave Hp := (p_split c (ofRC 2048 (P c))).1 $$ Hp
  icases Hp with ⟨⟨A0, B0⟩, ⟨A3, B3⟩, ⟨A6, B6⟩⟩
  simp only [cc1_body_eq_skeleton]; unfold cc1_body_skel
  sl_open_parts
  simp only [Prog.bind_op, Prog.bind_lift, Prog.bind_ret, Prog.pure_eq_ret, wp_deviceId, semSignalWord, semWaitWord, Prog.lift]
  iapply (signal_step P κ c 0 [1, 2] (todo 0) _ (barTo_eq c 0)) $$ [Hd0 R0 R5 R7 L0 HO]
  · isplitr; · iexact HR
    isplitl [Hd0]; · iexact Hd0
    isplitr [HO]
    · iapply (Entails.of_eq (barPay_give c 0))
      isplitl [R0]; · iexact R0
      isplitl [R5]; · iexact R5
      isplitl [R7]; · iexact R7
      iexists fo; iexact L0
    iexact HO
  iintro HO
  iapply (signal_step P κ c 1 [2] (todo 0) _ (barTo_eq c 1)) $$ [Hd1 R1 R3 R8 L3 HO]
  · isplitr; · iexact HR
    isplitl [Hd1]; · iexact Hd1
    isplitr [HO]
    · iapply (Entails.of_eq (barPay_give c 1))
      isplitl [R1]; · iexact R1
      isplitl [R3]; · iexact R3
      isplitl [R8]; · iexact R8
      iexists fo; iexact L3
    iexact HO
  iintro HO
  iapply (signal_step P κ c 2 [] (todo 0) _ (barTo_eq c 2)) $$ [Hd2 R2 R4 R6 L6 HO]
  · isplitr; · iexact HR
    isplitl [Hd2]; · iexact Hd2
    isplitr [HO]
    · iapply (Entails.of_eq (barPay_give c 2))
      isplitl [R2]; · iexact R2
      isplitl [R4]; · iexact R4
      isplitl [R6]; · iexact R6
      iexists fo; iexact L6
    iexact HO
  iintro HO
  iapply (wait_step P κ c (todo 0) (by decide +kernel)) $$ [Hbar Hcb HO]
  · isplitr; · iexact HR
    isplitr; · iexact Hlev
    isplitl [Hbar]; · iexact Hbar
    isplitl [Hcb] <;> iassumption
  iintro ⟨Hbar, G0, G1, G2, HO⟩
  ihave G0 := (barPay_0 c) $$ G0
  icases G0 with ⟨⟨R0, #Y0, #Z0⟩, ⟨R5, #Y5, #Z5⟩, ⟨R7, #Y7, #Z7⟩, L0⟩
  ihave G1 := (barPay_1 c) $$ G1
  icases G1 with ⟨⟨R1, #Y1, #Z1⟩, ⟨R3, #Y3, #Z3⟩, ⟨R8, #Y8, #Z8⟩, L3⟩
  ihave G2 := (barPay_2 c) $$ G2
  icases G2 with ⟨⟨R2, #Y2, #Z2⟩, ⟨R4, #Y4, #Z4⟩, ⟨R6, #Y6, #Z6⟩, L6⟩
  iapply (start_first P κ c 0 (todo 1) rfl _ _ (by decide) _ _ (sem_s (rs 0) _) (sem_r (rs 0) _) _ (scatTo_eq c 0) _ _ _ _
    (show k1_off1 c = _ from sentAt_eq c 0) rfl) $$ [T0 B0 R0 HO]
  · isplitr; · iexact HR
    isplitl [T0]; · iexact T0
    isplitl [B0]; · iexact B0
    isplitl [R0]; · iexact R0
    isplitr; · iexact Y0
    iexact HO
  iintro ⟨T0, HO⟩
  iapply (start_first P κ c 3 (todo 2) rfl _ _ (by decide) _ _ (sem_s (rs 3) _) (sem_r (rs 3) _) _ (scatTo_eq c 3) _ _ _ _
    (show k1_off2 c 768#32 2#32 = _ from sentAt_eq c 3) rfl) $$ [T3 B3 R3 HO]
  · isplitr; · iexact HR
    isplitl [T3]; · iexact T3
    isplitl [B3]; · iexact B3
    isplitl [R3]; · iexact R3
    isplitr; · iexact Y3
    iexact HO
  iintro ⟨T3, HO⟩
  iapply (start_first P κ c 6 (todo 3) rfl _ _ (by decide) _ _ (sem_s (rs 6) _) (sem_r (rs 6) _) _ (scatTo_eq c 6) _ _ _ _
    (show k1_off2 c 1408#32 1#32 = _ from sentAt_eq c 6) rfl) $$ [T6 B6 R6 HO]
  · isplitr; · iexact HR
    isplitl [T6]; · iexact T6
    isplitl [B6]; · iexact B6
    isplitl [R6]; · iexact R6
    isplitr; · iexact Y6
    iexact HO
  iintro ⟨T6, HO⟩
  iapply (finish_first P κ c 0 (todo 3) rfl _ _ rfl rfl _ _ k1_pay1 (fun v w x => add_pay v w x _) (by decide) (by decide +kernel) (by decide +kernel) _ _ (sem_s (rs 0) _) (sem_r (rs 0) _)
    (show k1_off3 c = _ from keptAt_eq c 0) rfl) $$ [T0 A0 K0 HO]
  · isplitr; · iexact HR
    isplitr; · iexact Hlev
    isplitl [T0]; · iexact T0
    isplitl [A0]; · iexact A0
    isplitl [K0]; · iexists fo; iexact K0
    iexact HO
  iintro ⟨T0, A0, R0, K0, HO⟩
  ihave K0 := (cut P c 0 1 (by decide) rfl rfl) $$ K0
  icases K0 with ⟨K1, S1⟩
  iapply (finish_first P κ c 3 (todo 3) rfl _ _ rfl rfl _ _ k1_pay2 (fun v w x => add_pay v w x _) (by decide) (by decide +kernel) (by decide +kernel) _ _ (sem_s (rs 3) _) (sem_r (rs 3) _)
    (show k1_off4 c 768#32 2#32 = _ from keptAt_eq c 3) rfl) $$ [T3 A3 K3 HO]
  · isplitr; · iexact HR
    isplitr; · iexact Hlev
    isplitl [T3]; · iexact T3
    isplitl [A3]; · iexact A3
    isplitl [K3]; · iexists fo; iexact K3
    iexact HO
  iintro ⟨T3, A3, R3, K3, HO⟩
  ihave K3 := (cut P c 3 4 (by decide) rfl rfl) $$ K3
  icases K3 with ⟨K4, S4⟩
  iapply (finish_first P κ c 6 (todo 3) rfl _ _ rfl rfl _ _ k1_pay3 (fun v w x => add_pay v w x _) (by decide) (by decide +kernel) (by decide +kernel) _ _ (sem_s (rs 6) _) (sem_r (rs 6) _)
    (show k1_off4 c 1408#32 1#32 = _ from keptAt_eq c 6) rfl) $$ [T6 A6 K6 HO]
  · isplitr; · iexact HR
    isplitr; · iexact Hlev
    isplitl [T6]; · iexact T6
    isplitl [A6]; · iexact A6
    isplitl [K6]; · iexists fo; iexact K6
    iexact HO
  iintro ⟨T6, A6, R6, K6, HO⟩
  ihave K6 := (cut P c 6 7 (by decide) rfl rfl) $$ K6
  icases K6 with ⟨K7, S7⟩
  iapply (start_later P κ c 1 (todo 4) rfl _ _ (by decide) _ _ (sem_s (rs 1) _) (sem_r (rs 1) _) _ (scatTo_eq c 1) _ _ _ _
    (show k1_off5 c = _ from sentAt_eq c 1) rfl) $$ [T1 S1 R1 HO]
  · isplitr; · iexact HR
    isplitl [T1]; · iexact T1
    isplitl [S1]; · iexact S1
    isplitl [R1]; · iexact R1
    isplitr; · iexact Y1
    iexact HO
  iintro ⟨T1, HO⟩
  iapply (start_later P κ c 4 (todo 5) rfl _ _ (by decide) _ _ (sem_s (rs 4) _) (sem_r (rs 4) _) _ (scatTo_eq c 4) _ _ _ _
    (show k1_off6 c 768#32 2#32 1#32 = _ from sentAt_eq c 4) rfl) $$ [T4 S4 R4 HO]
  · isplitr; · iexact HR
    isplitl [T4]; · iexact T4
    isplitl [S4]; · iexact S4
    isplitl [R4]; · iexact R4
    isplitr; · iexact Y4
    iexact HO
  iintro ⟨T4, HO⟩
  iapply (start_later P κ c 7 (todo 6) rfl _ _ (by decide) _ _ (sem_s (rs 7) _) (sem_r (rs 7) _) _ (scatTo_eq c 7) _ _ _ _
    (show k1_off6 c 1408#32 1#32 4#32 = _ from sentAt_eq c 7) rfl) $$ [T7 S7 R7 HO]
  · isplitr; · iexact HR
    isplitl [T7]; · iexact T7
    isplitl [S7]; · iexact S7
    isplitl [R7]; · iexact R7
    isplitr; · iexact Y7
    iexact HO
  iintro ⟨T7, HO⟩
  iapply (finish_later P κ c 1 (todo 6) rfl _ _ rfl rfl _ _ k1_pay4 (fun v w x => add_pay v w x _) (by decide) (by decide +kernel) (by decide +kernel) _ _ (sem_s (rs 1) _) (sem_r (rs 1) _)
    (show k1_off7 c = _ from keptAt_eq c 1) rfl) $$ [T1 K1 HO]
  · isplitr; · iexact HR
    isplitr; · iexact Hlev
    isplitl [T1]; · iexact T1
    isplitl [K1] <;> iassumption
  iintro ⟨T1, R1, K1, L1, HO⟩
  ihave K1 := (cut P c 1 2 (by decide) rfl rfl) $$ K1
  icases K1 with ⟨K2, S2⟩
  iapply (finish_later P κ c 4 (todo 6) rfl _ _ rfl rfl _ _ k1_pay5 (fun v w x => add_pay v w x _) (by decide) (by decide +kernel) (by decide +kernel) _ _ (sem_s (rs 4) _) (sem_r (rs 4) _)
    (show k1_off8 c 768#32 2#32 1#32 = _ from keptAt_eq c 4) rfl) $$ [T4 K4 HO]
  · isplitr; · iexact HR
    isplitr; · iexact Hlev
    isplitl [T4]; · iexact T4
    isplitl [K4] <;> iassumption
  iintro ⟨T4, R4, K4, L4, HO⟩
  ihave K4 := (cut P c 4 5 (by decide) rfl rfl) $$ K4
  icases K4 with ⟨K5, S5⟩
  iapply (finish_later P κ c 7 (todo 6) rfl _ _ rfl rfl _ _ k1_pay6 (fun v w x => add_pay v w x _) (by decide) (by decide +kernel) (by decide +kernel) _ _ (sem_s (rs 7) _) (sem_r (rs 7) _)
    (show k1_off8 c 1408#32 1#32 4#32 = _ from keptAt_eq c 7) rfl) $$ [T7 K7 HO]
  · isplitr; · iexact HR
    isplitr; · iexact Hlev
    isplitl [T7]; · iexact T7
    isplitl [K7] <;> iassumption
  iintro ⟨T7, R7, K7, L7, HO⟩
  ihave K7 := (cut P c 7 8 (by decide) rfl rfl) $$ K7
  icases K7 with ⟨K8, S8⟩
  iapply (start_later P κ c 2 (todo 7) rfl _ _ (by decide) _ _ (sem_s (rs 2) _) (sem_r (rs 2) _) _ (scatTo_eq c 2) _ _ _ _
    (show k1_off9 c = _ from sentAt_eq c 2) rfl) $$ [T2 S2 R2 HO]
  · isplitr; · iexact HR
    isplitl [T2]; · iexact T2
    isplitl [S2]; · iexact S2
    isplitl [R2]; · iexact R2
    isplitr; · iexact Y2
    iexact HO
  iintro ⟨T2, HO⟩
  iapply (start_later P κ c 5 (todo 8) rfl _ _ (by decide) _ _ (sem_s (rs 5) _) (sem_r (rs 5) _) _ (scatTo_eq c 5) _ _ _ _
    (show k1_off10 c 768#32 2#32 1#32 4#32 = _ from sentAt_eq c 5) rfl) $$ [T5 S5 R5 HO]
  · isplitr; · iexact HR
    isplitl [T5]; · iexact T5
    isplitl [S5]; · iexact S5
    isplitl [R5]; · iexact R5
    isplitr; · iexact Y5
    iexact HO
  iintro ⟨T5, HO⟩
  iapply (start_later P κ c 8 (todo 9) rfl _ _ (by decide) _ _ (sem_s (rs 8) _) (sem_r (rs 8) _) _ (scatTo_eq c 8) _ _ _ _
    (show k1_off10 c 1408#32 1#32 4#32 2#32 = _ from sentAt_eq c 8) rfl) $$ [T8 S8 R8 HO]
  · isplitr; · iexact HR
    isplitl [T8]; · iexact T8
    isplitl [S8]; · iexact S8
    isplitl [R8]; · iexact R8
    isplitr; · iexact Y8
    iexact HO
  iintro ⟨T8, HO⟩
  iapply (finish_later P κ c 2 (todo 9) rfl _ _ rfl rfl _ _ k1_pay7 (fun v w x => add_pay v w x _) (by decide) (by decide +kernel) (by decide +kernel) _ _ (sem_s (rs 2) _) (sem_r (rs 2) _)
    (show k1_off11 c = _ from keptAt_eq c 2) rfl) $$ [T2 K2 HO]
  · isplitr; · iexact HR
    isplitr; · iexact Hlev
    isplitl [T2]; · iexact T2
    isplitl [K2] <;> iassumption
  iintro ⟨T2, R2, K2, L2, HO⟩
  ihave K2 := (summed P c 2 (by decide)) $$ K2
  iapply (finish_later P κ c 5 (todo 9) rfl _ _ rfl rfl _ _ k1_pay8 (fun v w x => add_pay v w x _) (by decide) (by decide +kernel) (by decide +kernel) _ _ (sem_s (rs 5) _) (sem_r (rs 5) _)
    (show k1_off12 c 768#32 2#32 1#32 4#32 = _ from keptAt_eq c 5) rfl) $$ [T5 K5 HO]
  · isplitr; · iexact HR
    isplitr; · iexact Hlev
    isplitl [T5]; · iexact T5
    isplitl [K5] <;> iassumption
  iintro ⟨T5, R5, K5, L5, HO⟩
  ihave K5 := (summed P c 5 (by decide)) $$ K5
  iapply (finish_later P κ c 8 (todo 9) rfl _ _ rfl rfl _ _ k1_pay9 (fun v w x => add_pay v w x _) (by decide) (by decide +kernel) (by decide +kernel) _ _ (sem_s (rs 8) _) (sem_r (rs 8) _)
    (show k1_off12 c 1408#32 1#32 4#32 2#32 = _ from keptAt_eq c 8) rfl) $$ [T8 K8 HO]
  · isplitr; · iexact HR
    isplitr; · iexact Hlev
    isplitl [T8]; · iexact T8
    isplitl [K8] <;> iassumption
  iintro ⟨T8, R8, K8, L8, HO⟩
  ihave K8 := (summed P c 8 (by decide)) $$ K8
  iapply (start_gather P κ c 2 (todo 10) rfl _ _ _ _ (sem_s (ag 2) _) (sem_r (ag 2) _) _ (gathTo_eq c 2) _ _ _ _
    (show k1_off13 c = _ from gathAt_eq c 2) (show k1_off13 c = _ from gathAt_eq c 2)) $$ [U2 K2 L2 HO]
  · isplitr; · iexact HR
    isplitl [U2]; · iexact U2
    isplitl [K2]; · iexact K2
    isplitl [L2]; · iexact L2
    isplitr; · iexact Z2
    iexact HO
  iintro ⟨U2, HO⟩
  iapply (start_gather P κ c 5 (todo 11) rfl _ _ _ _ (sem_s (ag 5) _) (sem_r (ag 5) _) _ (gathTo_eq c 5) _ _ _ _
    (show k1_off14 c 768#32 2#32 1#32 4#32 = _ from gathAt_eq c 5) (show k1_off14 c 768#32 2#32 1#32 4#32 = _ from gathAt_eq c 5)) $$ [U5 K5 L5 HO]
  · isplitr; · iexact HR
    isplitl [U5]; · iexact U5
    isplitl [K5]; · iexact K5
    isplitl [L5]; · iexact L5
    isplitr; · iexact Z5
    iexact HO
  iintro ⟨U5, HO⟩
  iapply (start_gather P κ c 8 (todo 12) rfl _ _ _ _ (sem_s (ag 8) _) (sem_r (ag 8) _) _ (gathTo_eq c 8) _ _ _ _
    (show k1_off14 c 1408#32 1#32 4#32 2#32 = _ from gathAt_eq c 8) (show k1_off14 c 1408#32 1#32 4#32 2#32 = _ from gathAt_eq c 8)) $$ [U8 K8 L8 HO]
  · isplitr; · iexact HR
    isplitl [U8]; · iexact U8
    isplitl [K8]; · iexact K8
    isplitl [L8]; · iexact L8
    isplitr; · iexact Z8
    iexact HO
  iintro ⟨U8, HO⟩
  iapply (finish_gather P κ c 2 (todo 12) rfl rfl rfl (by decide +kernel) (by decide +kernel) _ _ (sem_s (ag 2) _) (sem_r (ag 2) _)) $$ [U2 HO]
  · isplitr; · iexact HR
    isplitr; · iexact Hlev
    isplitl [U2] <;> iassumption
  iintro ⟨U2, K2, L2, HO⟩
  ihave K1 := (joined c 1 2 (by decide) rfl (ofRC 2048 (Out P))) $$ [K2 L2]
  · isplitl [K2] <;> iassumption
  iapply (finish_gather P κ c 5 (todo 12) rfl rfl rfl (by decide +kernel) (by decide +kernel) _ _ (sem_s (ag 5) _) (sem_r (ag 5) _)) $$ [U5 HO]
  · isplitr; · iexact HR
    isplitr; · iexact Hlev
    isplitl [U5] <;> iassumption
  iintro ⟨U5, K5, L5, HO⟩
  ihave K4 := (joined c 4 5 (by decide) rfl (ofRC 2048 (Out P))) $$ [K5 L5]
  · isplitl [K5] <;> iassumption
  iapply (finish_gather P κ c 8 (todo 12) rfl rfl rfl (by decide +kernel) (by decide +kernel) _ _ (sem_s (ag 8) _) (sem_r (ag 8) _)) $$ [U8 HO]
  · isplitr; · iexact HR
    isplitr; · iexact Hlev
    isplitl [U8] <;> iassumption
  iintro ⟨U8, K8, L8, HO⟩
  ihave K7 := (joined c 7 8 (by decide) rfl (ofRC 2048 (Out P))) $$ [K8 L8]
  · isplitl [K8] <;> iassumption
  iapply (start_gather P κ c 1 (todo 13) rfl _ _ _ _ (sem_s (ag 1) _) (sem_r (ag 1) _) _ (gathTo_eq c 1) _ _ _ _
    (show k1_off15 c = _ from gathAt_eq c 1) (show k1_off15 c = _ from gathAt_eq c 1)) $$ [U1 K1 L1 HO]
  · isplitr; · iexact HR
    isplitl [U1]; · iexact U1
    isplitl [K1]; · iexact K1
    isplitl [L1]; · iexact L1
    isplitr; · iexact Z1
    iexact HO
  iintro ⟨U1, HO⟩
  iapply (start_gather P κ c 4 (todo 14) rfl _ _ _ _ (sem_s (ag 4) _) (sem_r (ag 4) _) _ (gathTo_eq c 4) _ _ _ _
    (show k1_off16 c 768#32 2#32 1#32 = _ from gathAt_eq c 4) (show k1_off16 c 768#32 2#32 1#32 = _ from gathAt_eq c 4)) $$ [U4 K4 L4 HO]
  · isplitr; · iexact HR
    isplitl [U4]; · iexact U4
    isplitl [K4]; · iexact K4
    isplitl [L4]; · iexact L4
    isplitr; · iexact Z4
    iexact HO
  iintro ⟨U4, HO⟩
  iapply (start_gather P κ c 7 (todo 15) rfl _ _ _ _ (sem_s (ag 7) _) (sem_r (ag 7) _) _ (gathTo_eq c 7) _ _ _ _
    (show k1_off16 c 1408#32 1#32 4#32 = _ from gathAt_eq c 7) (show k1_off16 c 1408#32 1#32 4#32 = _ from gathAt_eq c 7)) $$ [U7 K7 L7 HO]
  · isplitr; · iexact HR
    isplitl [U7]; · iexact U7
    isplitl [K7]; · iexact K7
    isplitl [L7]; · iexact L7
    isplitr; · iexact Z7
    iexact HO
  iintro ⟨U7, HO⟩
  iapply (finish_gather P κ c 1 (todo 15) rfl rfl rfl (by decide +kernel) (by decide +kernel) _ _ (sem_s (ag 1) _) (sem_r (ag 1) _)) $$ [U1 HO]
  · isplitr; · iexact HR
    isplitr; · iexact Hlev
    isplitl [U1] <;> iassumption
  iintro ⟨U1, K1, L1, HO⟩
  ihave K0 := (joined c 0 1 (by decide) rfl (ofRC 2048 (Out P))) $$ [K1 L1]
  · isplitl [K1] <;> iassumption
  iapply (finish_gather P κ c 4 (todo 15) rfl rfl rfl (by decide +kernel) (by decide +kernel) _ _ (sem_s (ag 4) _) (sem_r (ag 4) _)) $$ [U4 HO]
  · isplitr; · iexact HR
    isplitr; · iexact Hlev
    isplitl [U4] <;> iassumption
  iintro ⟨U4, K4, L4, HO⟩
  ihave K3 := (joined c 3 4 (by decide) rfl (ofRC 2048 (Out P))) $$ [K4 L4]
  · isplitl [K4] <;> iassumption
  iapply (finish_gather P κ c 7 (todo 15) rfl rfl rfl (by decide +kernel) (by decide +kernel) _ _ (sem_s (ag 7) _) (sem_r (ag 7) _)) $$ [U7 HO]
  · isplitr; · iexact HR
    isplitr; · iexact Hlev
    isplitl [U7] <;> iassumption
  iintro ⟨U7, K7, L7, HO⟩
  ihave K6 := (joined c 6 7 (by decide) rfl (ofRC 2048 (Out P))) $$ [K7 L7]
  · isplitl [K7] <;> iassumption
  iapply (start_gather P κ c 0 (todo 16) rfl _ _ _ _ (sem_s (ag 0) _) (sem_r (ag 0) _) _ (gathTo_eq c 0) _ _ _ _
    (show k1_off17 c = _ from gathAt_eq c 0) (show k1_off17 c = _ from gathAt_eq c 0)) $$ [U0 K0 L0 HO]
  · isplitr; · iexact HR
    isplitl [U0]; · iexact U0
    isplitl [K0]; · iexact K0
    isplitl [L0]; · iexact L0
    isplitr; · iexact Z0
    iexact HO
  iintro ⟨U0, HO⟩
  iapply (start_gather P κ c 3 (todo 17) rfl _ _ _ _ (sem_s (ag 3) _) (sem_r (ag 3) _) _ (gathTo_eq c 3) _ _ _ _
    (show k1_off18 c 768#32 2#32 = _ from gathAt_eq c 3) (show k1_off18 c 768#32 2#32 = _ from gathAt_eq c 3)) $$ [U3 K3 L3 HO]
  · isplitr; · iexact HR
    isplitl [U3]; · iexact U3
    isplitl [K3]; · iexact K3
    isplitl [L3]; · iexact L3
    isplitr; · iexact Z3
    iexact HO
  iintro ⟨U3, HO⟩
  iapply (start_gather P κ c 6 (todo 18) rfl _ _ _ _ (sem_s (ag 6) _) (sem_r (ag 6) _) _ (gathTo_eq c 6) _ _ _ _
    (show k1_off18 c 1408#32 1#32 = _ from gathAt_eq c 6) (show k1_off18 c 1408#32 1#32 = _ from gathAt_eq c 6)) $$ [U6 K6 L6 HO]
  · isplitr; · iexact HR
    isplitl [U6]; · iexact U6
    isplitl [K6]; · iexact K6
    isplitl [L6]; · iexact L6
    isplitr; · iexact Z6
    iexact HO
  iintro ⟨U6, HO⟩
  iapply (finish_gather P κ c 0 (todo 18) rfl rfl rfl (by decide +kernel) (by decide +kernel) _ _ (sem_s (ag 0) _) (sem_r (ag 0) _)) $$ [U0 HO]
  · isplitr; · iexact HR
    isplitr; · iexact Hlev
    isplitl [U0] <;> iassumption
  iintro ⟨U0, K0, L0, HO⟩
  iapply (finish_gather P κ c 3 (todo 18) rfl rfl rfl (by decide +kernel) (by decide +kernel) _ _ (sem_s (ag 3) _) (sem_r (ag 3) _)) $$ [U3 HO]
  · isplitr; · iexact HR
    isplitr; · iexact Hlev
    isplitl [U3] <;> iassumption
  iintro ⟨U3, K3, L3, HO⟩
  iapply (finish_gather P κ c 6 (todo 18) rfl rfl rfl (by decide +kernel) (by decide +kernel) _ _ (sem_s (ag 6) _) (sem_r (ag 6) _)) $$ [U6 HO]
  · isplitr; · iexact HR
    isplitr; · iexact Hlev
    isplitl [U6] <;> iassumption
  iintro ⟨U6, K6, L6, HO⟩
  iapply (ret_step c Q)
  iapply HQ
  unfold runPost
  isplitl [T0 T3 T6 T1 T4 T7 T2 T5 T8 U2 U5 U8 U1 U4 U7 U0 U3 U6]
  · iapply (Entails.of_eq each.symm)
    isplitl [T0]; · iexact T0
    isplitl [T3]; · iexact T3
    isplitl [T6]; · iexact T6
    isplitl [T1]; · iexact T1
    isplitl [T4]; · iexact T4
    isplitl [T7]; · iexact T7
    isplitl [T2]; · iexact T2
    isplitl [T5]; · iexact T5
    isplitl [T8]; · iexact T8
    isplitl [U2]; · iexact U2
    isplitl [U5]; · iexact U5
    isplitl [U8]; · iexact U8
    isplitl [U1]; · iexact U1
    isplitl [U4]; · iexact U4
    isplitl [U7]; · iexact U7
    isplitl [U0]; · iexact U0
    isplitl [U3]; · iexact U3
    iexact U6
  isplitl [Hbar]; · iexact Hbar
  isplitl [A0 A3 A6]
  · iapply (p_split c (ofRC 2048 (P c))).2
    isplitl [A0]; · iexact A0
    isplitl [A3] <;> iassumption
  isplitl [K0 L0 K3 L3 K6 L6]
  · iapply (o_split c (ofRC 2048 (Out P))).2
    isplitl [K0 L0]; · isplitl [K0] <;> iassumption
    isplitl [K3 L3]; · isplitl [K3] <;> iassumption
    isplitl [K6] <;> iassumption
  isplitl [R0 R1 R2 R3 R4 R5 R6 R7 R8]
  · iapply (s_join c)
    iapply (Entails.of_eq each_slot.symm)
    isplitl [R0]; · iexact R0
    isplitl [R5]; · iexact R5
    isplitl [R7]; · iexact R7
    isplitl [R1]; · iexact R1
    isplitl [R3]; · iexact R3
    isplitl [R8]; · iexact R8
    isplitl [R2]; · iexact R2
    isplitl [R4]; · iexact R4
    iexact R6
  iexact HO

end Cert.KernelIdeal.AllReduce
-- ==== Proof.KernelIdeal.Cells.lean ====
/- A device's cells opened where the all-reduce begins and closed where it ends. -/
module

public import proofs.«01_k».proof.Proof.KernelIdeal.Run

@[expose] public section

noncomputable section

namespace Cert.KernelIdeal.AllReduce

open Idealize.ShloMosaic Idealize.ShloMosaic.TcCoe
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → ℕ → ℕ → Elt F .f32) (κ : GSem nD τ sig → ℕ) (c : Dev nD)

/-- The counters a device's copies use. -/
def copySem : Fin 18 × Fin 2 → SemLoc sig := fun k => if k.2 = 0 then .dma (sS k.1) else .dma (rS k.1)

theorem copySem_inj : Function.Injective copySem := by decide +kernel

/-- The counters of one copy, both at zero. -/
def zr (q : Fin 18) : sProp 𝕄 := iprop(semVal (sCell c q) 0 ∗ semVal (rCell c q) 0)

theorem copySems_eq : (Pipeline.ownSems0 copySem c : sProp 𝕄) = bigSep Finset.univ fun q : Fin 18 => zr c q := by
  unfold Pipeline.ownSems0
  rw [bigSep_univ_prod]
  exact congrArg (bigSep Finset.univ) (funext fun q => BI.bigSep_fin_two _)

/-- What a device has of copy `q` from the launch. -/
def fresh (q : Fin 18) : sProp 𝕄 :=
  iprop((openTok ER (sCell c q) ∗ openTok ER (rCell c q)) ∗ dutyTok ER (sCell c q) 0 0 ∗ dutyTok ER (rCell (peer c q) q) 0 0
    ∗ cred (tallyAt (rCell c q) () (amt q)))

theorem open_copy (q : Fin 18) :
    iprop(recs P κ ∗ fresh c q ∗ zr c q) ⊢ (|={Set.univ}=> (tk c q ∗ reached ER (rCell c q) 0) : sProp 𝕄) := by
  unfold fresh tk zr
  iintro ⟨HR, ⟨⟨Ho, Ho'⟩, Ht, Ht', Hc⟩, Hz, Hz'⟩
  ihave ⟨#HI, #HI'⟩ := (recs_copy P κ c q) $$ HR
  imod (Rounds.cell_open ER (Rd P) (g := sCell c q) (Set.mem_univ (κ (sCell c q)))) $$ [Ho Hz] with ⟨Hat, #Hr⟩
  · isplitr; · iexact HI
    isplitl [Ho] <;> iassumption
  imod (Rounds.cell_open ER (Rd P) (g := rCell c q) (Set.mem_univ (κ (rCell c q)))) $$ [Ho' Hz'] with ⟨Hat', #Hr'⟩
  · isplitr; · iexact HI'
    isplitl [Ho'] <;> iassumption
  imodintro
  isplitl [Hat Hat' Ht Ht' Hc]
  · isplitl [Hat]; · iexact Hat
    isplitl [Hat']; · iexact Hat'
    isplitr; · iexact Hr
    isplitl [Ht]; · iexact Ht
    isplitl [Ht']; · iexact Ht'
    iexact Hc
  iexact Hr'

theorem open_copies :
    iprop(recs P κ ∗ (bigSep Finset.univ fun q => fresh c q) ∗ Pipeline.ownSems0 copySem c)
      ⊢ (|={Set.univ}=> ((bigSep Finset.univ fun q => tk c q) ∗ bigSep Finset.univ fun q => reached ER (rCell c q) 0) : sProp 𝕄) := by
  rw [copySems_eq, ← bigSep_sep', ← bigSep_sep']
  exact (bigSep_with_persistent fun q _ => open_copy P κ c q).trans (bigSep_fupd _ _)

theorem close_copy (q : Fin 18) : iprop(recs P κ ∗ dn c q) ⊢ (|={Set.univ}=> zr c q : sProp 𝕄) := by
  unfold dn zr
  iintro ⟨HR, Hat, Hat'⟩
  ihave ⟨#HI, #HI'⟩ := (recs_copy P κ c q) $$ HR
  imod (Rounds.cell_close ER (Rd P) (g := sCell c q) (Set.mem_univ (κ (sCell c q))) id (duties_later P _)) $$ [Hat] with Hz
  · isplitr; · iexact HI
    iexact Hat
  imod (Rounds.cell_close ER (Rd P) (g := rCell c q) (Set.mem_univ (κ (rCell c q))) id (duties_later P _)) $$ [Hat'] with Hz'
  · isplitr; · iexact HI'
    iexact Hat'
  imodintro
  isplitl [Hz] <;> iassumption

/-- Every round over, a device has its counters back at zero. -/
theorem close_all :
    iprop(recs P κ ∗ (bigSep Finset.univ fun q => dn c q) ∗ atPos ER (barCell c) (0 + 1) ∅ 0)
      ⊢ (|={Set.univ}=> (Pipeline.ownSems0 copySem c ∗ semVal (barCell c) 0) : sProp 𝕄) := by
  have h : iprop(recs P κ ∗ bigSep Finset.univ fun q => dn c q) ⊢ (|={Set.univ}=> Pipeline.ownSems0 copySem c : sProp 𝕄) := by
    rw [copySems_eq]
    exact (bigSep_with_persistent fun q _ => close_copy P κ c q).trans (bigSep_fupd _ _)
  iintro ⟨#HR, Hd, Hat⟩
  ihave ⟨#HI, -⟩ := (recs_bar P κ c) $$ HR
  imod h $$ [Hd] with Hz
  · isplitr; · iexact HR
    iexact Hd
  imod (Rounds.cell_close ER (Rd P) (g := barCell c) (Set.mem_univ (κ (barCell c))) id (duties_later P _)) $$ [Hat] with Hb
  · isplitr; · iexact HI
    iexact Hat
  imodintro
  isplitl [Hz] <;> iassumption

end Cert.KernelIdeal.AllReduce
-- ==== Proof.KernelIdeal.Matmul.lean ====
/- The block product: what one grid point computes, the array the grid leaves, and the step of the program that runs it. -/
module

public import proofs.«01_k».proof.Proof.KernelIdeal.Run
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArrays

@[expose] public section

set_option maxRecDepth 16384

noncomputable section

namespace Cert.KernelIdeal.AllReduce

open Idealize.ShloMosaic Idealize.ShloMosaic.TcCoe Idealize.ShloMosaic.Tactic
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat BodyObligation)
open Cert.KernelIdeal Cert.KernelIdeal.Gen

variable {F : FTy → Type} [FloatOps F] [∀ e, Nonempty (Elt F e)]

local notation "𝕄" => MT nD τ sig Unit (Elt F) ℕ UU ℕ

/-! ## One grid point -/

abbrev rIn : Rect S512x2048 := Rect.unit (s := S512x2048) ![0, 0] S512x2048.size inb_S512x2048_S512x2048_0_0
abbrev rOut : Rect S512x512 := Rect.unit (s := S512x512) ![0, 0] S512x512.size inb_S512x512_S512x512_0_0

theorem rIn_idx (x : S512x2048.Idx) : rIn.idx x = x :=
  funext fun a => Fin.ext (by show (![0, 0] : Fin 2 → ℕ) a + 1 * (x a).val = (x a).val; fin_cases a <;> simp)
theorem rOut_emb (x : S512x512.Idx) : rOut.emb x = x :=
  funext fun a => Fin.ext (by rw [Rect.emb_apply]; show (![0, 0] : Fin 2 → ℕ) a + 1 * (x a).val = (x a).val; fin_cases a <;> simp)

/-- From two blocks and room for the result, the body leaves their product there. -/
theorem product_body (c : Dev nD) (a₀ : Memref sig .tc .vmem S512x2048 .f32) (h₀ : a₀.IsWhole) (a₁ : Memref sig .tc .vmem S512x2048 .f32)
    (h₁ : a₁.IsWhole) (a₂ : Memref sig .tc .vmem S512x512 .f32) (h₂ : a₂.IsWhole) (i : grid0.Coords)
    (x y : Vec F S512x2048 .f32) (Q : PUnit → sProp 𝕄) :
    iprop(owns (c : Thread nD τ) a₀ fullShare x ∗ owns (c : Thread nD τ) a₁ fullShare y ∗ (∃ d, owns (c : Thread nD τ) a₂ fullShare d)
        ∗ (iprop(owns (c : Thread nD τ) a₀ fullShare x ∗ owns (c : Thread nD τ) a₁ fullShare y
            ∗ owns (c : Thread nD τ) a₂ fullShare (k0_pay1 x y)) -∗ Q ⟨⟩))
      ⊢ wp frame (wpE (defs₀ (F := F)) 𝒱₀ (c : Thread nD τ) none) Set.univ (cc0_mm_body i a₀ h₀ a₁ h₁ a₂ h₂) Q := by
  simp only [cc0_mm_body_eq_skeleton]; unfold cc0_mm_body_skel
  unfold owns
  iintro ⟨⟨%f₀, %e₀, H₀⟩, ⟨%f₁, %e₁, H₁⟩, ⟨%d, %f₂, -, H₂⟩, HQ⟩
  subst e₀ e₁
  sl_exec
  sl_step
  iapply HQ
  isplitl [H₀]
  · iexists f₀; isplitr
    · ipureintro; rfl
    iexact H₀
  isplitl [H₁]
  · iexists f₁; isplitr
    · ipureintro; rfl
    iexact H₁
  iexists _; isplitr
  swap; · iexact H₂
  ipureintro
  have hx : a₀.view.readAt (Elt F) rIn.toLoadRect f₀ = a₀.view.read (Elt F) f₀ := funext fun z => congrArg _ (rIn_idx z)
  have hy : a₁.view.readAt (Elt F) rIn.toLoadRect f₁ = a₁.view.read (Elt F) f₁ := funext fun z => congrArg _ (rIn_idx z)
  rw [hx, hy]
  refine (View.read_writes_eq_canon _ _ _ fun z => ⟨_, List.mem_singleton_self _, ?_⟩).trans
    (funext fun z => ?_)
  · rw [← Rect.map_emb_univ]; exact Finset.mem_map.mpr ⟨z, Finset.mem_univ _, rOut_emb z⟩
  · have := View.canon_cons_emb (Val := Elt F) (e := .f32) rOut (k0_pay1 (a₀.view.read (Elt F) f₀) (a₁.view.read (Elt F) f₁)) [] z
    rw [rOut_emb] at this
    exact this

/-! ## The grid -/

section Grid
variable (V : Dev nD → Valuation τ sig (Elt F))

/-- The rows of the first operand that point `t` is given. -/
def rowsAt (c : Dev nD) (t : Fin cfg0.N) : Vec F S512x2048 .f32 := ((cfg0.win 0).blk t).view.read (Elt F) (V c main_v15)
/-- The rows of the second operand that point `t` is given. -/
def colsAt (c : Dev nD) (t : Fin cfg0.N) : Vec F S512x2048 .f32 := ((cfg0.win 1).blk t).view.read (Elt F) (V c main_v20)

/-- The grid's data: the arrays as found, each point's two blocks kept and their product beside them; the copies still owed. -/
def datM (c : Dev nD) : Dat τ (Elt F) Unit ℕ UU ℕ cfg0 c where
  A w := V c (Proc.devRef .tc (Pipeline.arrRef spec0 w))
  after w t := match w with
    | ⟨0, _⟩ => rowsAt V c t
    | ⟨1, _⟩ => colsAt V c t
    | ⟨2, _⟩ => k0_pay1 (rowsAt V c t) (colsAt V c t)
  Φ _ := Pipeline.scopedRest spec0 c
  q _ := fullShare
  owed _ := owed c [0, 1, 2] (todo 0)

theorem datM_A (c : Dev nD) (w : Fin cfg0.W) : (datM V c).A w = V c (Proc.devRef .tc (Pipeline.arrRef spec0 w)) := by dsimp only [datM]
theorem datM_0 (c : Dev nD) (t : Fin cfg0.N) : (datM V c).after 0 t = rowsAt V c t := by dsimp only [datM]
theorem datM_1 (c : Dev nD) (t : Fin cfg0.N) : (datM V c).after 1 t = colsAt V c t := by dsimp only [datM]
theorem datM_2 (c : Dev nD) (t : Fin cfg0.N) : (datM V c).after 2 t = k0_pay1 (rowsAt V c t) (colsAt V c t) := by dsimp only [datM]

theorem found_0 (c : Dev nD) (t : Fin cfg0.N) (d) : (datM V c).before 0 t d = rowsAt V c t := by
  rw [(datM V c).before_in_eq_fetched 0 rfl (fun _ => rfl) (fun _ _ _ => rfl) (fun t => by rw [datM_0]; unfold Dat.blockOf rowsAt; rw [datM_A]) t d]
  unfold Dat.fetched Dat.blockOf rowsAt; rw [datM_A]; rfl
theorem found_1 (c : Dev nD) (t : Fin cfg0.N) (d) : (datM V c).before 1 t d = colsAt V c t := by
  rw [(datM V c).before_in_eq_fetched 1 rfl (fun _ => rfl) (fun _ _ _ => rfl) (fun t => by rw [datM_1]; unfold Dat.blockOf colsAt; rw [datM_A]) t d]
  unfold Dat.fetched Dat.blockOf colsAt; rw [datM_A]; rfl

/-- The body at any point, as the grid calls it. -/
theorem point_body (c : Dev nD) (t : Fin cfg0.N) :
    iprop((datM V c).Φ t.castSucc ∗ (datM V c).owesAt () t.castSucc
      ∗ (∃ d, owns (c : Thread nD τ) (st0_0 t) fullShare ((datM V c).before 0 t d))
      ∗ (∃ d, owns (c : Thread nD τ) (st0_1 t) fullShare ((datM V c).before 1 t d))
      ∗ (∃ d, owns (c : Thread nD τ) (st0_2 t) fullShare ((datM V c).before 2 t d)))
    ⊢ wp frame (wpE (defs₀ (F := F)) 𝒱₀ (c : Thread nD τ) none) Set.univ (bodyAt0 t) fun _ =>
      iprop((datM V c).Φ t.succ ∗ (datM V c).owesAt () t.succ
        ∗ owns (c : Thread nD τ) (st0_0 t) fullShare ((datM V c).after 0 t)
        ∗ owns (c : Thread nD τ) (st0_1 t) fullShare ((datM V c).after 1 t)
        ∗ owns (c : Thread nD τ) (st0_2 t) fullShare ((datM V c).after 2 t)) := by
  simp only [found_0, found_1]
  rw [show (datM V c).Φ t.succ = (datM V c).Φ t.castSucc from rfl,
    show (datM V c).owesAt () t.succ = (datM V c).owesAt () t.castSucc from rfl, datM_0, datM_1, datM_2]
  iintro ⟨HΦ, HO, ⟨%d₀, H₀⟩, ⟨%d₁, H₁⟩, ⟨%d₂, H₂⟩⟩
  iapply (product_body c _ _ _ _ _ _ _ (rowsAt V c t) (colsAt V c t) _)
  isplitl [H₀]; · iexact H₀
  isplitl [H₁]; · iexact H₁
  isplitl [H₂]; · iexists _; iexact H₂
  iintro ⟨H₀, H₁, H₂⟩
  isplitl [HΦ]; · iexact HΦ
  isplitl [HO]; · iexact HO
  isplitl [H₀]; · iexact H₀
  isplitl [H₁]; · iexact H₁
  iexact H₂

theorem row0 (t : Fin cfg0.N) : defs₀ (F := F) .tc cfg0.body (cfg0.bodyArgs t (cfg0.slots t)) = bodyAt0 t := by
  unfold defs₀; rw [Defs.onTc_tc]

theorem grid_body (c : Dev nD) : BodyObligation (datM V c) (defs₀ (F := F)) 𝒱₀ () Set.univ := fun t => by
  rw [bigSep_W0, bigSep_W0, row0]
  exact triple_restated (point_body V c t) rfl .rfl fun _ => .rfl

/-- The array of products when the grid is done. -/
def prod (c : Dev nD) : Buf (Elt F) ((c : Thread nD τ).loc main_v21) := (datM V c).arrAt 2 cfg0.N

end Grid

end Cert.KernelIdeal.AllReduce
-- ==== Proof.KernelIdeal.Reduce.lean ====
/- The step of the program that runs the all-reduce: what it starts from, what it leaves, and its body at its one point. -/
module

public import proofs.«01_k».proof.Proof.KernelIdeal.Cells
public import proofs.«01_k».proof.Proof.KernelIdeal.Matmul

@[expose] public section

set_option maxRecDepth 16384

noncomputable section

namespace Cert.KernelIdeal.AllReduce

open Idealize.ShloMosaic Idealize.ShloMosaic.TcCoe Idealize.ShloMosaic.Tactic
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat BodyObligation)
open Cert.KernelIdeal Cert.KernelIdeal.Gen

variable {F : FTy → Type} [FloatOps F] [∀ e, Nonempty (Elt F e)]

local notation "𝕄" => MT nD τ sig Unit (Elt F) ℕ UU ℕ

variable (V : Dev nD → Valuation τ sig (Elt F))

/-- The partial product a device brings, as a block. -/
def brought (c : Dev nD) : Vec F S2048x2048 .f32 := ((cfg1.win 0).blk t1_0).view.read (Elt F) (V c main_v21)

/-- Row `i`, column `j` of a square block. -/
def at2 {i j : ℕ} (h : i < 2048 ∧ j < 2048) : S2048x2048.Idx
  | ⟨0, _⟩ => ⟨i, h.1⟩
  | ⟨1, _⟩ => ⟨j, h.2⟩

/-- The partial product a device brings, by row and column. -/
def part (c : Dev nD) (i j : ℕ) : Elt F .f32 :=
  if h : i < 2048 ∧ j < 2048 then brought V c (at2 h)
  else Classical.arbitrary _

theorem ofRC_part (c : Dev nD) : (ofRC 2048 (part V c) : Vec F S2048x2048 .f32) = brought V c := by
  funext x
  have h : (x 0).val < 2048 ∧ (x 1).val < 2048 := ⟨(x 0).isLt, (x 1).isLt⟩
  show part V c (x 0).val (x 1).val = _
  unfold part
  rw [dif_pos h]
  congr 1
  funext a; fin_cases a <;> rfl

/-! ## What the step holds beside its arrays -/

/-- From the launch: the counters still to be opened. -/
def gave (c : Dev nD) : sProp 𝕄 :=
  iprop((∃ κ, recs (part V) κ) ∗ atPos ER (barCell c) 0 ∅ 0 ∗ cred (tallyAt (barCell c) () 3)
    ∗ (dutyTok ER (barCell (pr 0 c)) 0 0 ∗ dutyTok ER (barCell (pr 1 c)) 0 1 ∗ dutyTok ER (barCell (pr 2 c)) 0 2)
    ∗ bigSep Finset.univ fun q => fresh c q)
/-- The same once they are. -/
def ready (c : Dev nD) : sProp 𝕄 :=
  iprop((∃ κ, recs (part V) κ ∗ (bigSep Finset.univ fun q => tk c q) ∗ bigSep Finset.univ fun q : Fin 18 => reached ER (rCell c q) 0)
    ∗ levAts L lv ∗ atPos ER (barCell c) 0 ∅ 0 ∗ cred (tallyAt (barCell c) () 3)
    ∗ (dutyTok ER (barCell (pr 0 c)) 0 0 ∗ dutyTok ER (barCell (pr 1 c)) 0 1 ∗ dutyTok ER (barCell (pr 2 c)) 0 2))

theorem opening (c : Dev nD) : iprop(gave V c ∗ Pipeline.ownSems0 copySem c ∗ levAts L lv) ⊢ (|={Set.univ}=> ready V c : sProp 𝕄) := by
  unfold gave ready
  iintro ⟨⟨⟨%κ, #HR⟩, Hb, Hc, Ht, Hf⟩, Hz, #Hlev⟩
  imod (open_copies (part V) κ c) $$ [Hf Hz] with ⟨Hk, Hr⟩
  · isplitr; · iexact HR
    isplitl [Hf] <;> iassumption
  imodintro
  isplitl [Hk Hr]
  · iexists κ
    isplitr; · iexact HR
    isplitl [Hk] <;> iassumption
  isplitr; · iexact Hlev
  isplitl [Hb]; · iexact Hb
  isplitl [Hc]; · iexact Hc
  iexact Ht

/-! ## The step's data -/

/-- The step's data: the partial product kept, the result beside it; what is owed paid by the end. -/
def datT (c : Dev nD) : Dat τ (Elt F) Unit ℕ UU ℕ cfg1 c where
  A w := V c (Proc.devRef .tc (Pipeline.arrRef spec1 w))
  after w t := match w with
    | ⟨0, _⟩ => ofRC 2048 (part V c)
    | ⟨1, _⟩ => ofRC 2048 (Out (part V))
  Φ t := if t.val = 0 then iprop(Pipeline.scopedRest spec1 c ∗ (∃ r, prngReg c r) ∗ ready V c)
    else iprop(Pipeline.scopedRest spec1 c ∗ (∃ r, prngReg c r) ∗ Pipeline.ownSems0 copySem c ∗ semVal (barCell c) 0)
  q _ := fullShare
  owed t := if t.val = 0 then owed c [0, 1, 2] (todo 0) else 0

theorem datT_A (c : Dev nD) (w : Fin cfg1.W) : (datT V c).A w = V c (Proc.devRef .tc (Pipeline.arrRef spec1 w)) := by dsimp only [datT]
theorem datT_0 (c : Dev nD) (t : Fin cfg1.N) : (datT V c).after 0 t = (ofRC 2048 (part V c) : Vec F S2048x2048 .f32) := by dsimp only [datT]
theorem datT_1 (c : Dev nD) (t : Fin cfg1.N) : (datT V c).after 1 t = (ofRC 2048 (Out (part V)) : Vec F S2048x2048 .f32) := by dsimp only [datT]

theorem owed_first (c : Dev nD) : (datT V c).owed 0 = owed c [0, 1, 2] (todo 0) := by
  show (if (0 : Fin (cfg1.N + 1)).val = 0 then owed c [0, 1, 2] (todo 0) else 0) = _; exact if_pos rfl
theorem owed_last (c : Dev nD) : (datT V c).owed (Fin.last _) = 0 := by
  show (if (Fin.last cfg1.N).val = 0 then owed c [0, 1, 2] (todo 0) else 0) = 0
  rw [Fin.val_last, if_neg (by rw [show cfg1.N = 1 from N_1]; decide)]

theorem Φ_first (c : Dev nD) : (datT V c).Φ 0 = iprop(Pipeline.scopedRest spec1 c ∗ (∃ r, prngReg c r) ∗ ready V c) := by
  dsimp only [datT]; exact if_pos rfl
theorem Φ_last (c : Dev nD) : (datT V c).Φ (Fin.last _)
    = iprop(Pipeline.scopedRest spec1 c ∗ (∃ r, prngReg c r) ∗ Pipeline.ownSems0 copySem c ∗ semVal (barCell c) 0) := by
  dsimp only [datT]
  rw [Fin.val_last, if_neg (by rw [show cfg1.N = 1 from N_1]; decide)]

theorem found (c : Dev nD) (t : Fin cfg1.N) (d) : (datT V c).before 0 t d = brought V c := by
  obtain rfl := fin_N1 t
  rw [(datT V c).before_in_eq_fetched 0 rfl (fun _ => rfl) (fun _ _ _ => rfl)
    (fun t => by obtain rfl := fin_N1 t; rw [datT_0, ofRC_part]; unfold Dat.blockOf brought; rw [datT_A]) t1_0 d]
  unfold Dat.fetched Dat.blockOf brought; rw [datT_A]; rfl

theorem owes_in (c : Dev nD) : ((datT V c).owesAt () t1_0.castSucc : sProp 𝕄) ⊢ ow c [0, 1, 2] (todo 0) := by
  unfold Dat.owesAt Pipeline.owesWithin ow
  rw [show (datT V c).owed t1_0.castSucc = owed c [0, 1, 2] (todo 0) from owed_first V c]
  iintro ⟨%W, -, HO⟩; iexists W; iexact HO
theorem owes_out (c : Dev nD) : ow c [] [] ⊢ ((datT V c).owesAt () t1_0.succ : sProp 𝕄) := by
  unfold Dat.owesAt Pipeline.owesWithin Dat.bound ow
  rw [show (datT V c).owed t1_0.succ = 0 from owed_last V c, owed_nil, show (datT V c).recorded t1_0.succ = Set.univ from rfl]
  iintro ⟨%W, HO⟩; iexists W; isplitr; · ipureintro; exact fun _ _ => Or.inl trivial
  iexact HO

theorem reduce_body (c : Dev nD) :
    iprop((datT V c).Φ t1_0.castSucc ∗ (datT V c).owesAt () t1_0.castSucc
      ∗ (∃ d, owns (c : Thread nD τ) (st1_0 t1_0) fullShare ((datT V c).before 0 t1_0 d))
      ∗ (∃ d, owns (c : Thread nD τ) (st1_1 t1_0) fullShare ((datT V c).before 1 t1_0 d)))
    ⊢ wp frame (wpE (defs₀ (F := F)) 𝒱₀ (c : Thread nD τ) none) Set.univ (bodyAt1 t1_0) fun _ =>
      iprop((datT V c).Φ t1_0.succ ∗ (datT V c).owesAt () t1_0.succ
        ∗ owns (c : Thread nD τ) (st1_0 t1_0) fullShare ((datT V c).after 0 t1_0)
        ∗ owns (c : Thread nD τ) (st1_1 t1_0) fullShare ((datT V c).after 1 t1_0)) := by
  simp only [found]
  rw [show (datT V c).Φ t1_0.castSucc = _ from Φ_first V c, show (datT V c).Φ t1_0.succ = _ from Φ_last V c, datT_0, datT_1, ← ofRC_part,
    scopedRest1_eq]
  have e₀ (X : Vec F S2048x2048 .f32) : (owns (c : Thread nD τ) (st1_0 t1_0) fullShare X : sProp 𝕄) = pAll c X := owns_whole (c : Thread nD τ) cc1_stg0_0 fullShare X
  have e₁ (X : Vec F S2048x2048 .f32) : (owns (c : Thread nD τ) (st1_1 t1_0) fullShare X : sProp 𝕄) = oAll c X := owns_whole (c : Thread nD τ) cc1_stg1_0 fullShare X
  rw [e₀, e₁]
  refine .trans ?_ (wp_fupd _ _ _ _ _)
  unfold ready
  iintro ⟨⟨⟨B₁, B₂, B₃, B₄, B₅, B₆, Hs⟩, Hp, ⟨%κ, #HR, Hk, Hr⟩, #Hlev, Hb, Hc, Ht⟩, HO, ⟨%d₀, H₀⟩, ⟨%d₁, H₁⟩⟩
  iapply (run (part V) κ c _)
  isplitl [Hs Hk Hr Hb Hc Ht HO H₀ H₁]
  · unfold runPre
    isplitr; · iexact HR
    isplitr; · iexact Hlev
    isplitl [Hb]; · iexact Hb
    isplitl [Hc]; · iexact Hc
    isplitl [Ht]; · iexact Ht
    isplitl [Hk]; · iexact Hk
    isplitl [Hr]; · iexact Hr
    isplitl [H₀]; · iexact H₀
    isplitl [H₁]; · iexists _; iapply (Entails.of_eq (e₁ _)); iexact H₁
    isplitl [Hs]; · iexact Hs
    iapply (owes_in V c); iexact HO
  unfold runPost
  iintro ⟨Hd, Hb, H₀, H₁, Hs, HO⟩
  imod (close_all (part V) κ c) $$ [Hd Hb] with ⟨Hz, Hzb⟩
  · isplitr; · iexact HR
    isplitl [Hd] <;> iassumption
  imodintro
  isplitl [B₁ B₂ B₃ B₄ B₅ B₆ Hs Hp Hz Hzb]
  · isplitl [B₁ B₂ B₃ B₄ B₅ B₆ Hs]
    · isplitl [B₁]; · iexact B₁
      isplitl [B₂]; · iexact B₂
      isplitl [B₃]; · iexact B₃
      isplitl [B₄]; · iexact B₄
      isplitl [B₅]; · iexact B₅
      isplitl [B₆]; · iexact B₆
      iexact Hs
    isplitl [Hp]; · iexact Hp
    isplitl [Hz] <;> iassumption
  isplitl [HO]; · iapply (owes_out V c); iexact HO
  isplitl [H₀] <;> iassumption

theorem row1 (t : Fin cfg1.N) : defs₀ (F := F) .tc cfg1.body (cfg1.bodyArgs t (cfg1.slots t)) = bodyAt1 t := by
  unfold defs₀; rw [Defs.onTc_tc]

theorem all_reduce_body (c : Dev nD) : BodyObligation (datT V c) (defs₀ (F := F)) 𝒱₀ () Set.univ := fun t => by
  obtain rfl : t = t1_0 := fin_N1 t
  rw [bigSep_W1, bigSep_W1, row1]
  exact triple_restated (reduce_body V c) rfl .rfl fun _ => .rfl

/-- The result's array when the step is done. -/
def answer (c : Dev nD) : Buf (Elt F) ((c : Thread nD τ).loc main_v22) := (datT V c).arrAt 1 cfg1.N

end Cert.KernelIdeal.AllReduce
-- ==== Proof.KernelIdeal.Program.lean ====
/- The program as three steps in a row: the host's operations, the block product, the all-reduce. -/
module

public import proofs.«01_k».proof.Proof.KernelIdeal.Reduce
public import Idealize.ShloMosaic.Lib.Pipeline.RegionTalk

@[expose] public section

set_option maxRecDepth 16384

noncomputable section

namespace Cert.KernelIdeal.AllReduce

open Idealize.ShloMosaic Idealize.ShloMosaic.TcCoe Idealize.ShloMosaic.Tactic
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat BodyObligation)
open Cert.KernelIdeal Cert.KernelIdeal.Gen

variable {F : FTy → Type} [FloatOps F] [∀ e, Nonempty (Elt F e)]

local notation "𝕄" => MT nD τ sig Unit (Elt F) ℕ UU ℕ

variable (m : (ℓ : Loc nD τ sig) → Buf (Elt F) ℓ)

/-! ## The arrays after each step -/

/-- After the block product. -/
def W2 (c : Dev nD) : Valuation τ sig (Elt F) := Function.update (V1 m c) main_v21 (prod (V1 m) c)
/-- After the all-reduce. -/
def W3 (c : Dev nD) : Valuation τ sig (Elt F) := Function.update (W2 m c) main_v22 (answer (W2 m) c)

theorem W2_of (c : Dev nD) (r : Ref sig .tc) (h : r ≠ main_v21) : W2 m c r = V1 m c r := by
  unfold W2; rw [Function.update_of_ne (StableHlo.devRef_ne_of_ne h : (Proc.devRef .tc r : DevRef τ sig) ≠ Proc.devRef .tc main_v21)]
theorem W2_self (c : Dev nD) : W2 m c main_v21 = prod (V1 m) c := by unfold W2; exact Function.update_self ..
theorem W3_of (c : Dev nD) (r : Ref sig .tc) (h : r ≠ main_v22) : W3 m c r = W2 m c r := by
  unfold W3; rw [Function.update_of_ne (StableHlo.devRef_ne_of_ne h : (Proc.devRef .tc r : DevRef τ sig) ≠ Proc.devRef .tc main_v22)]
theorem W3_self (c : Dev nD) : W3 m c main_v22 = answer (W2 m) c := by unfold W3; exact Function.update_self ..

theorem W3_main_arg0 (c : Dev nD) : W3 m c main_arg0 = m ((c : Thread nD τ).loc main_arg0) :=
  (W3_of m c main_arg0 (by decide)).trans <| (W2_of m c main_arg0 (by decide)).trans <| (V1_of m c main_arg0 (by decide)).trans rfl
theorem W3_main_arg1 (c : Dev nD) : W3 m c main_arg1 = m ((c : Thread nD τ).loc main_arg1) :=
  (W3_of m c main_arg1 (by decide)).trans <| (W2_of m c main_arg1 (by decide)).trans <| (V1_of m c main_arg1 (by decide)).trans rfl

/-! ## The steps' records -/

def pdats : (p : Fin 2) → (c : Dev nD) → Dat τ (Elt F) Unit ℕ UU ℕ (cfgs p) c
  | 0 => datM (V1 m)
  | 1 => datT (W2 m)

/-- What a device carries beside its arrays until the all-reduce. -/
def carried (c : Dev nD) : sProp 𝕄 := iprop(gave (W2 m) c ∗ (∃ r, prngReg c r) ∗ ow c [0, 1, 2] (todo 0))
/-- And after it. -/
def spent (c : Dev nD) : sProp 𝕄 := iprop(semVal (barCell c) 0 ∗ ∃ W, owes (c : Thread nD τ) (0 : CellTallies nD τ sig Unit) W)

/-- The arrays no window of the product stages. -/
abbrev rest0 : Finset (DevRef τ sig) := Pipeline.ucRefs τ sig \ Pipeline.arrRefs (τ := τ) spec0
/-- The arrays no window of the all-reduce stages. -/
abbrev rest1 : Finset (DevRef τ sig) := Pipeline.ucRefs τ sig \ Pipeline.arrRefs (τ := τ) spec1

theorem stage_low0 : ∀ (w : Fin 3) (s : Fin (win0 w).nbuf), ((win0 w).sem s).val < 8 := by decide +kernel
theorem stage_low1 : ∀ (w : Fin 2) (s : Fin (win1 w).nbuf), ((win1 w).sem s).val < 8 := by decide +kernel
theorem low (c : Dev nD) (s : DmaSem sig) (h : s.val < 8) (u : Unit) : lv ((c : Thread nD τ), .dma s) u ≤ 0 := by
  show (if s.val < 26 then 0 else lvq (qOf s)) ≤ 0
  rw [if_pos (by omega)]
theorem lvq_pos (q : Fin 18) : 0 < lvq q := by revert q; decide +kernel
theorem owed_high (c : Dev nD) (la : List (Fin 3)) (l : List (Fin 18)) (g : GSem nD τ sig) (u : Unit) (h : 0 < owed c la l g u) :
    u ∈ L g ∧ 0 < lv g u := by
  rcases owed_at h with ⟨a, -, rfl⟩ | ⟨q, -, rfl⟩
  · exact ⟨by rw [L_tc]; exact Finset.mem_singleton_self _, Nat.one_pos⟩
  · exact ⟨by rw [L_tc]; exact Finset.mem_singleton_self _, by show 0 < lvS _; rw [lvS_r]; exact lvq_pos q⟩

set_option backward.isDefEq.respectTransparency.types false in
def reg0 : Pipeline.RegionSeg (pcfgs (F := F)) adm (pdats m) () defs₀ 𝒱₀ L lv 0 :=
  Pipeline.RegionSeg.ofHeld (pcfgs (F := F)) adm (pdats m) () defs₀ 𝒱₀ L lv 0 (fun c => owed c [0, 1, 2] (todo 0))
    (fun _ => iprop(emp)) (fun _ => iprop(emp)) launch0.toP rfl (fun c => (grid_body (V1 m) c).loose)
    (fun _ _ => rfl) (fun _ => rfl) (fun c w => (datM (V1 m) c).share_full (fun _ => rfl) w)
    (fun c => by
      show iprop(Pipeline.scopedRest spec0 c ∗ emp) ⊢ (Pipeline.scopedRest spec0 c : sProp 𝕄)
      iintro ⟨H, -⟩; iexact H)
    (fun c => by
      show (Pipeline.scopedRest spec0 c : sProp 𝕄) ⊢ iprop(Pipeline.scopedRest spec0 c ∗ emp)
      iintro H; isplitl [H]; · iexact H
      iempintro)
    (fun _ => 0)
    ⟨fun c w s => by rw [L_tc]; exact Finset.mem_singleton_self _, fun c w s => low c _ (stage_low0 w s) (), fun c g i h => owed_high c _ _ g i h⟩
    (fun c => iprop(StableHlo.held (c : Thread nD τ) rest0 (V1 m c) ∗ gave (W2 m) c ∗ ∃ r, prngReg c r))
    (V1 m) (W2 m)
    (fun c w => datM_A (V1 m) c w)
    (fun c w => by
      match w with
      | ⟨0, _⟩ => exact ((datM (V1 m) c).arrAt_in 0 rfl _).trans ((datM_A (V1 m) c 0).trans (W2_of m c main_v15 (by decide)).symm)
      | ⟨1, _⟩ => exact ((datM (V1 m) c).arrAt_in 1 rfl _).trans ((datM_A (V1 m) c 1).trans (W2_of m c main_v20 (by decide)).symm)
      | ⟨2, _⟩ => exact (W2_self m c).symm)

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 copySem (by decide +kernel : Pipeline.OwnSemFacts spec1 copySem)
    ∅ rest1 (Finset.empty_subset _) launch1.toP rfl (fun c => (all_reduce_body (W2 m) c).loose)
    (fun _ => 0) (fun c => owed c [0, 1, 2] (todo 0)) (fun c => (owed_first (W2 m) c).trans (zero_add _).symm) (owed_last (W2 m)) (fun _ => rfl)
    (fun c w => (datT (W2 m) c).share_full (fun _ => rfl) w)
    (W2 m) (W3 m)
    (fun c b hb => by
      unfold W3
      refine Function.update_of_ne (fun h => ?_) _ _
      subst h
      exact absurd (Finset.mem_sdiff.mp (Finset.mem_sdiff.mp hb).1).2 (not_not_intro (by decide +kernel)))
    (gave (W2 m)) (fun c => semVal (barCell c) 0) (ready (W2 m)) (fun c => semVal (barCell c) 0) (opening (W2 m))
    (fun c => by
      show _ ⊢ (datT (W2 m) c).Φ 0
      rw [Φ_first]
      iintro ⟨Hs, Hp, -, HX⟩
      isplitl [Hs]; · iexact Hs
      isplitl [Hp]; · iexact Hp
      iexact HX)
    (fun c => by
      show (datT (W2 m) c).Φ (Fin.last _) ⊢ _
      rw [Φ_last]
      iintro ⟨Hs, Hp, Hz, Hb⟩
      isplitl [Hs]; · iexact Hs
      isplitl [Hp]; · iexact Hp
      isplitr; · rw [show (StableHlo.held (c.tc : Thread nD τ) ∅ (W3 m c) : sProp 𝕄) = BI.emp from BI.bigSep_empty]; iempintro
      isplitl [Hz]; · iexact Hz
      iexact Hb)
    (fun c => by iintro H; imodintro; iexact H)
    (fun _ => 0)
    ⟨fun c w s => by rw [L_tc]; exact Finset.mem_singleton_self _, fun c w s => low c _ (stage_low1 w s) (), fun c t g i h => by
      have e : (pdats m 1 c).owed t = if t.val = 0 then owed c [0, 1, 2] (todo 0) else 0 := rfl
      rw [e] at h
      split at h
      · exact owed_high c _ _ g i h
      · exact absurd h (Nat.lt_irrefl 0)⟩
    (fun _ => iprop(emp))
    (fun c w => datT_A (W2 m) c w)
    (fun c w => by
      match w with
      | ⟨0, _⟩ => exact ((datT (W2 m) c).arrAt_in 0 rfl _).trans ((datT_A (W2 m) c 0).trans (W3_of m c main_v21 (by decide)).symm)
      | ⟨1, _⟩ => exact (W3_self m c).symm)

/-! ## The steps in a row -/

theorem pre0 (c : Dev nD) : iprop(StableHlo.held (c : Thread nD τ) (Pipeline.ucRefs τ sig) (V1 m c) ∗ carried m c) ⊢ (reg0 m).pre c := by
  show _ ⊢ iprop(StableHlo.held (c.tc : Thread nD τ) (Pipeline.arrRefs (τ := τ) spec0) (V1 m c) ∗ emp
    ∗ (StableHlo.held (c : Thread nD τ) rest0 (V1 m c) ∗ gave (W2 m) c ∗ ∃ r, prngReg c r) ∗ ow c [0, 1, 2] (todo 0))
  rw [StableHlo.held_sub_split (c : Thread nD τ) (Pipeline.arrRefs_sub_ucRefs spec0 (by decide)) (V1 m c)]
  unfold carried
  iintro ⟨⟨Ha, Hr⟩, Hg, Hp, HO⟩
  isplitl [Ha]; · iexact Ha
  isplitr; · iempintro
  isplitr [HO]
  · isplitl [Hr]; · iexact Hr
    isplitl [Hg] <;> iassumption
  iexact HO

theorem post0 (c : Dev nD) : (reg0 m).post c ⊢ iprop(StableHlo.held (c : Thread nD τ) (Pipeline.ucRefs τ sig) (W2 m c) ∗ carried m c) := by
  show iprop(StableHlo.held (c.tc : Thread nD τ) (Pipeline.arrRefs (τ := τ) spec0) (W2 m c) ∗ emp
    ∗ (StableHlo.held (c : Thread nD τ) rest0 (V1 m c) ∗ gave (W2 m) c ∗ ∃ r, prngReg c r) ∗ ow c [0, 1, 2] (todo 0)) ⊢ _
  rw [StableHlo.held_sub_split (c : Thread nD τ) (Pipeline.arrRefs_sub_ucRefs spec0 (by decide)) (W2 m c),
    StableHlo.held_congr (c : Thread nD τ) (S := rest0) (V := V1 m c) (V' := W2 m c) fun b hb => by
      unfold W2
      refine (Function.update_of_ne (fun h => ?_) _ _).symm
      subst h
      exact absurd (Finset.mem_sdiff.mp hb).2 (not_not_intro (by decide +kernel))]
  unfold carried
  iintro ⟨Ha, -, ⟨Hr, Hg, Hp⟩, HO⟩
  isplitl [Ha Hr]; · isplitl [Ha] <;> iassumption
  isplitl [Hg]; · iexact Hg
  isplitl [Hp] <;> iassumption

theorem pre1 (c : Dev nD) : iprop(StableHlo.held (c : Thread nD τ) (Pipeline.ucRefs τ sig) (W2 m c) ∗ carried m c) ⊢ (reg1 m).pre c := by
  show _ ⊢ iprop(StableHlo.held (c.tc : Thread nD τ) (Pipeline.arrRefs (τ := τ) spec1) (W2 m c) ∗ (∃ r, prngReg c r)
    ∗ (StableHlo.held (c : Thread nD τ) rest1 (W2 m c) ∗ emp) ∗ gave (W2 m) c ∗ ∃ Wd, owes (c : Thread nD τ) (0 + owed c [0, 1, 2] (todo 0)) Wd)
  rw [StableHlo.held_sub_split (c : Thread nD τ) (Pipeline.arrRefs_sub_ucRefs spec1 (by decide)) (W2 m c), zero_add]
  unfold carried ow
  iintro ⟨⟨Ha, Hr⟩, Hg, Hp, HO⟩
  isplitl [Ha]; · iexact Ha
  isplitl [Hp]; · iexact Hp
  isplitl [Hr]
  · isplitl [Hr]; · iexact Hr
    iempintro
  isplitl [Hg] <;> iassumption

theorem post1 (c : Dev nD) : (reg1 m).post c ⊢ iprop(StableHlo.held (c : Thread nD τ) (Pipeline.ucRefs τ sig) (W3 m c) ∗ spent c) := by
  show iprop(StableHlo.held (c.tc : Thread nD τ) (Pipeline.arrRefs (τ := τ) spec1) (W3 m c) ∗ (∃ r, prngReg c r)
    ∗ (StableHlo.held (c : Thread nD τ) rest1 (W3 m c) ∗ emp) ∗ semVal (barCell c) 0 ∗ ∃ Wd, owes (c : Thread nD τ) (0 : CellTallies nD τ sig Unit) Wd) ⊢ _
  rw [StableHlo.held_sub_split (c : Thread nD τ) (Pipeline.arrRefs_sub_ucRefs spec1 (by decide)) (W3 m c)]
  unfold spent
  iintro ⟨Ha, -, ⟨Hr, -⟩, Hb, HO⟩
  isplitl [Ha Hr]; · isplitl [Ha] <;> iassumption
  isplitl [Hb] <;> iassumption

end Cert.KernelIdeal.AllReduce
-- ==== Proof.KernelIdeal.Launch.lean ====
/- The launch: every cell's invariant made, every right and every credit dealt to the device that uses it. -/
module

public import proofs.«01_k».proof.Proof.KernelIdeal.Program
public import Idealize.ShloMosaic.Lib.Quiescent

@[expose] public section

set_option maxRecDepth 16384

noncomputable section

namespace Cert.KernelIdeal.AllReduce

open Idealize.ShloMosaic Idealize.ShloMosaic.TcCoe Idealize.ShloMosaic.Tactic
open Idealize.SL
open Idealize.SL.RA
open Idealize.SL.BI
open scoped Idealize.SL.BI
open Idealize.SL.BI.BIBase Idealize.SL.BI.Laws Idealize.SL.ProofMode
open Idealize.SL.Sem
open Idealize.ShloMosaic.Rounds
open Cert.KernelIdeal Cert.KernelIdeal.Gen

variable {F : FTy → Type} [FloatOps F] [∀ e, Nonempty (Elt F e)]

local notation "𝕄" => MT nD τ sig Unit (Elt F) ℕ UU ℕ

/-! ## The cells and the rights -/

def barEmb : Dev nD ↪ GSem nD τ sig := ⟨fun c => barCell c, fun _ _ h => congrArg (fun g : GSem nD τ sig => g.1.1) h⟩
def copyEmb : Dev nD × (Fin 18 × Fin 2) ↪ GSem nD τ sig :=
  ⟨fun ck => ((ck.1 : Thread nD τ), copySem ck.2), fun _ _ h =>
    Prod.ext (congrArg (fun g : GSem nD τ sig => g.1.1) h) (copySem_inj (congrArg Prod.snd h))⟩

/-- The barriers' cells, made with their counters; the copies' cells, made without. -/
abbrev barCells : Finset (GSem nD τ sig) := Finset.univ.map barEmb
abbrev copyCells : Finset (GSem nD τ sig) := Finset.univ.map copyEmb

theorem copySem_ne_bar : ∀ k, copySem k ≠ .reg barS := by decide +kernel

theorem disjoint_cells : Disjoint (barCells : Finset (GSem nD τ sig)) copyCells := by
  rw [Finset.disjoint_left]
  rintro g h₁ h₂
  obtain ⟨c, -, rfl⟩ := Finset.mem_map.mp h₁
  obtain ⟨ck, -, h⟩ := Finset.mem_map.mp h₂
  exact copySem_ne_bar ck.2 (congrArg Prod.snd h)

def barDuty : Dev nD × Fin 3 ↪ GSem nD τ sig × ℕ × Fin 3 :=
  ⟨fun ca => (barCell ca.1, 0, ca.2), fun _ _ h =>
    Prod.ext (congrArg (fun t : GSem nD τ sig × ℕ × Fin 3 => t.1.1.1) h) (congrArg (fun t : GSem nD τ sig × ℕ × Fin 3 => t.2.2) h)⟩
def copyDuty : Dev nD × (Fin 18 × Fin 2) ↪ GSem nD τ sig × ℕ × Fin 3 :=
  ⟨fun ck => (copyEmb ck, 0, 0), fun _ _ h => copyEmb.injective (congrArg (fun t : GSem nD τ sig × ℕ × Fin 3 => t.1) h)⟩

theorem disjoint_duties : Disjoint (Finset.univ.map barDuty) (Finset.univ.map copyDuty) := by
  rw [Finset.disjoint_left]
  rintro g h₁ h₂
  obtain ⟨c, -, rfl⟩ := Finset.mem_map.mp h₁
  obtain ⟨ck, -, h⟩ := Finset.mem_map.mp h₂
  exact copySem_ne_bar ck.2 (congrArg (fun t : GSem nD τ sig × ℕ × Fin 3 => t.1.2) h)

/-- Every duty's right. -/
def rights : Finset (GSem nD τ sig × ℕ × Fin 3) := Finset.univ.map barDuty ∪ Finset.univ.map copyDuty

/-- The bookkeeping the launch begins with: the pipeline's and the protocol's. -/
def u₀ : UU :=
  (initOf (Pipeline.cells cfgs cellOf_inj) (Pipeline.launchToks cfgs cellOf_inj), launchOf barCells copyCells rights)

/-- All of the protocol's, kept by device 0 until it is dealt. -/
def kept (c : Dev nD) : sProp 𝕄 := if c = 0 then BI.own (ER (launchOf barCells copyCells rights)) else iprop(emp)
theorem kept_all : bigSep Finset.univ (kept (F := F)) = BI.own (ER (launchOf barCells copyCells rights)) := by
  rw [bigSep_univ_at _ 0, bigSep_congr (s := Finset.univ.erase 0) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

/-! ## Dealing -/

theorem copies_split (Φ : GSem nD τ sig → sProp 𝕄) :
    bigSep copyCells Φ = bigSep Finset.univ fun c : Dev nD => bigSep Finset.univ fun q : Fin 18 => iprop(Φ (sCell c q) ∗ Φ (rCell c q)) := by
  rw [bigSep_map, bigSep_univ_prod]
  exact bigSep_congr fun c _ => by
    rw [bigSep_univ_prod]
    exact bigSep_congr fun q _ => BI.bigSep_fin_two _

theorem recs_made (P : Dev nD → ℕ → ℕ → Elt F .f32) (κ : GSem nD τ sig → ℕ) :
    iprop((bigSep (barCells ∪ copyCells) fun g => cellInv ER (Rd P) (κ g) g) ∗ bigSep barCells fun g => reached ER g 0) ⊢ recs P κ := by
  unfold recs
  rw [bigSep_union disjoint_cells, copies_split, bigSep_map, bigSep_map, bigSep_sep', bigSep_sep']
  show iprop((_ ∗ _) ∗ _) ⊢ _
  iintro ⟨⟨H₁, H₂⟩, H₃⟩
  isplitl [H₁]; · iexact H₁
  isplitl [H₃]; · iexact H₃
  iexact H₂

/-- The barrier's units across each axis. -/
def acrossBar : Dev nD × Fin 3 ≃ Dev nD × Fin 3 :=
  ⟨fun ca => (pr ca.2 ca.1, ca.2), fun ca => (pr ca.2 ca.1, ca.2), fun ca => Prod.ext (pr_pr _ _) rfl, fun ca => Prod.ext (pr_pr _ _) rfl⟩
/-- Each copy to the device it goes to. -/
def acrossCopy : Dev nD × Fin 18 ≃ Dev nD × Fin 18 :=
  ⟨fun cq => (peer cq.1 cq.2, cq.2), fun cq => (peer cq.1 cq.2, cq.2), fun cq => Prod.ext (peer_peer _ _) rfl, fun cq => Prod.ext (peer_peer _ _) rfl⟩

/-- The rights device `c` uses. -/
def uses (c : Dev nD) : sProp 𝕄 :=
  iprop((dutyTok ER (barCell (pr 0 c)) 0 0 ∗ dutyTok ER (barCell (pr 1 c)) 0 1 ∗ dutyTok ER (barCell (pr 2 c)) 0 2)
    ∗ bigSep Finset.univ fun q : Fin 18 => iprop(dutyTok ER (sCell c q) 0 0 ∗ dutyTok ER (rCell (peer c q) q) 0 0))

theorem rights_bar : (bigSep (Finset.univ.map barDuty) fun x => (dutyTok ER x.1 x.2.1 x.2.2 : sProp 𝕄))
    = bigSep Finset.univ fun c : Dev nD => iprop(dutyTok ER (barCell (pr 0 c)) 0 0 ∗ dutyTok ER (barCell (pr 1 c)) 0 1 ∗ dutyTok ER (barCell (pr 2 c)) 0 2) := by
  rw [bigSep_map, bigSep_univ_equiv acrossBar, bigSep_univ_prod]
  exact bigSep_congr fun c _ => Ring.bigSep_fin3 _

theorem rights_copy : (bigSep (Finset.univ.map copyDuty) fun x => (dutyTok ER x.1 x.2.1 x.2.2 : sProp 𝕄))
    = bigSep Finset.univ fun c : Dev nD => bigSep Finset.univ fun q : Fin 18 => iprop(dutyTok ER (sCell c q) 0 0 ∗ dutyTok ER (rCell (peer c q) q) 0 0) := by
  have h₁ : (bigSep (Finset.univ.map copyDuty) fun x => (dutyTok ER x.1 x.2.1 x.2.2 : sProp 𝕄))
      = bigSep copyCells fun g => (dutyTok ER g 0 0 : sProp 𝕄) := by rw [bigSep_map, bigSep_map]; rfl
  have h₂ : (bigSep Finset.univ fun c : Dev nD => bigSep Finset.univ fun q : Fin 18 => (dutyTok ER (rCell c q) 0 0 : sProp 𝕄))
      = bigSep Finset.univ fun c : Dev nD => bigSep Finset.univ fun q : Fin 18 => (dutyTok ER (rCell (peer c q) q) 0 0 : sProp 𝕄) := by
    rw [← bigSep_univ_prod (fun cq : Dev nD × Fin 18 => (dutyTok ER (rCell cq.1 cq.2) 0 0 : sProp 𝕄)), bigSep_univ_equiv acrossCopy, bigSep_univ_prod]
    rfl
  rw [h₁, copies_split]
  simp only [bigSep_sep']
  rw [h₂]

theorem rights_dealt : (bigSep rights fun x => (dutyTok ER x.1 x.2.1 x.2.2 : sProp 𝕄)) = bigSep Finset.univ fun c : Dev nD => uses c := by
  unfold rights uses
  rw [bigSep_union disjoint_duties, rights_bar, rights_copy]
  exact (bigSep_sep' _ _ _).symm

/-! ## Credits -/

/-- What device `c` owes from the launch. -/
abbrev O₀ (c : Dev nD) : CellTallies nD τ sig Unit := owed c [0, 1, 2] (todo 0)

theorem list_at {ι : Type} (l : List ι) (f : ι → CellTallies nD τ sig Unit) (g : GSem nD τ sig) (u : Unit) :
    (l.map f).sum g u = (l.map fun i => f i g u).sum := by
  induction l with
  | nil => rfl
  | cons i l ih => rw [List.map_cons, List.sum_cons, Pi.add_apply, Finsupp.add_apply, ih, List.map_cons, List.sum_cons]

theorem sum_axes (f : Fin 3 → ℕ) : (([0, 1, 2] : List (Fin 3)).map f).sum = ∑ a, f a := by
  rw [← List.sum_toFinset f (by decide)]; rfl
theorem sum_todo (f : Fin 18 → ℕ) : ((todo 0).map f).sum = ∑ q, f q := by
  rw [← List.sum_toFinset f (by decide +kernel)]
  exact congrArg (fun s => Finset.sum s f) (by decide +kernel)

theorem O₀_at (d : Dev nD) (g : GSem nD τ sig) : O₀ d g () = (∑ a : Fin 3, if g = barCell (pr a d) then 1 else 0)
    + ∑ q : Fin 18, if g = rCell (peer d q) q then amt q else 0 := by
  unfold O₀ owed
  rw [Pi.add_apply, Finsupp.add_apply, list_at, list_at, sum_axes, sum_todo]
  simp only [tallyAt_apply, and_true]

theorem rS_inj : Function.Injective rS := by decide +kernel
theorem bar_ne (c d : Dev nD) (q : Fin 18) : barCell c ≠ rCell d q := fun h => by cases congrArg Prod.snd h

theorem due_bar (c : Dev nD) : (∑ d, O₀ d (barCell c) ()) = 3 := by
  have h (d : Dev nD) : O₀ d (barCell c) () = ∑ a : Fin 3, if d = pr a c then 1 else 0 := by
    rw [O₀_at, Finset.sum_eq_zero (fun q _ => if_neg (bar_ne _ _ _) : ∀ q ∈ Finset.univ, (if barCell c = rCell (peer d q) q then amt q else 0) = 0), add_zero]
    refine Finset.sum_congr rfl fun a _ => if_congr ⟨fun e => ?_, fun e => ?_⟩ rfl rfl
    · have e' : c = pr a d := congrArg (fun g : GSem nD τ sig => g.1.1) e
      rw [e', pr_pr]
    · rw [e, pr_pr]
  simp only [h]
  rw [Finset.sum_comm]
  simp only [Finset.sum_ite_eq', Finset.mem_univ, if_true]
  rfl

theorem due_copy (c : Dev nD) (q : Fin 18) : (∑ d, O₀ d (rCell c q) ()) = amt q := by
  have h (d : Dev nD) : O₀ d (rCell c q) () = if d = peer c q then amt q else 0 := by
    rw [O₀_at, Finset.sum_eq_zero (fun a _ => if_neg (fun e => bar_ne _ _ _ e.symm) : ∀ a ∈ Finset.univ, (if rCell c q = barCell (pr a d) then 1 else 0) = 0),
      zero_add, Finset.sum_eq_single q (fun q' _ hq => if_neg fun e => hq ?_) (fun hq => absurd (Finset.mem_univ q) hq)]
    · refine if_congr ⟨fun e => ?_, fun e => ?_⟩ rfl rfl
      · have e' : c = peer d q := congrArg (fun g : GSem nD τ sig => g.1.1) e
        rw [e', peer_peer]
      · rw [e, peer_peer]
    · have e' := congrArg Prod.snd e
      exact (rS_inj (SemLoc.dma.inj e')).symm
  simp only [h, Finset.sum_ite_eq', Finset.mem_univ, if_true]

theorem credit_at (c : Dev nD) (sm : SemLoc sig) (n : ℕ) (h : (∑ d, O₀ d ((c : Thread nD τ), sm) ()) = n) :
    tallyOn ((c : Thread nD τ), sm) (launchCredit (Pipeline.owing O₀) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same, h]

def recvEmb : Fin 18 ↪ SemLoc sig := ⟨fun q => .dma (rS q), fun _ _ h => rS_inj (SemLoc.dma.inj h)⟩

theorem credits (c : Dev nD) :
    (Pipeline.launchCred O₀ c : sProp 𝕄) ⊢ iprop(cred (tallyAt (barCell c) () 3) ∗ bigSep Finset.univ fun q : Fin 18 => cred (tallyAt (rCell c q) () (amt q))) := by
  unfold Pipeline.launchCred
  rw [bigSep_univ_at _ (SemLoc.reg barS), credit_at c _ 3 (due_bar c)]
  refine sep_mono_right ?_
  have h : (bigSep Finset.univ fun q : Fin 18 => cred (tallyAt (rCell c q) () (amt q)) : sProp 𝕄)
      = bigSep (Finset.univ.map recvEmb) fun sm => cred (tallyOn ((c : Thread nD τ), sm) (launchCredit (Pipeline.owing O₀) 0 ((c : Thread nD τ), sm))) := by
    rw [bigSep_map]
    exact bigSep_congr fun q _ => congrArg cred (credit_at c (.dma (rS q)) (amt q) (due_copy c q)).symm
  rw [h]
  refine bigSep_subset fun s hs => ?_
  obtain ⟨q, -, rfl⟩ := Finset.mem_map.mp hs
  exact Finset.mem_erase.mpr ⟨nofun, Finset.mem_univ _⟩

/-! ## What the steps begin with -/

theorem unscoped_eq : ∀ sm : SemLoc sig, sm.isScoped .tc = false → sm = .reg barS := by decide +kernel
theorem counters (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

variable (m : (ℓ : Loc nD τ sig) → Buf (Elt F) ℓ) (ρ : Dev nD → PrngReg)

/-- What stays with device `c` of the protocol's bookkeeping. -/
def linear (c : Dev nD) : sProp 𝕄 :=
  iprop(atPos ER (barCell c) 0 ∅ 0 ∗ (bigSep Finset.univ fun q : Fin 18 => iprop(openTok ER (sCell c q) ∗ openTok ER (rCell c q))) ∗ uses c)
/-- And of the rest. -/
def bundle (c : Dev nD) : sProp 𝕄 :=
  iprop(StableHlo.held (c : Thread nD τ) (Pipeline.ucRefs τ sig) (V0 m c)
    ∗ (cred (tallyAt (barCell c) () 3) ∗ bigSep Finset.univ fun q : Fin 18 => cred (tallyAt (rCell c q) () (amt q)))
    ∗ owes (c : Thread nD τ) (O₀ c) ∅ ∗ ∃ r, prngReg c r)

abbrev first (c : Dev nD) : sProp 𝕄 := iprop(StableHlo.held (c : Thread nD τ) (Pipeline.ucRefs τ sig) (V0 m c) ∗ carried m c)

theorem fresh_made (c : Dev nD) :
    iprop((bigSep Finset.univ fun q : Fin 18 => iprop(openTok ER (sCell c q) ∗ openTok ER (rCell c q)))
      ∗ (bigSep Finset.univ fun q : Fin 18 => iprop(dutyTok ER (sCell c q) 0 0 ∗ dutyTok ER (rCell (peer c q) q) 0 0))
      ∗ bigSep Finset.univ fun q : Fin 18 => cred (tallyAt (rCell c q) () (amt q))) ⊢ (bigSep Finset.univ fun q => fresh c q : sProp 𝕄) := by
  rw [← bigSep_sep', ← bigSep_sep']
  refine bigSep_mono fun q _ => ?_
  show (_ : sProp 𝕄) ⊢ fresh c q
  unfold fresh
  iintro ⟨Ho, ⟨Ht, Ht'⟩, Hc⟩
  isplitl [Ho]; · iexact Ho
  isplitl [Ht]; · iexact Ht
  isplitl [Ht'] <;> iassumption

theorem first_made (κ : GSem nD τ sig → ℕ) (c : Dev nD) : iprop(recs (part (W2 m)) κ ∗ (linear c ∗ bundle m c)) ⊢ first m c := by
  unfold first linear bundle carried gave uses ow
  iintro ⟨#HR, ⟨Hat, Ho, Ht₃, Ht⟩, Hh, ⟨Hc, Hcs⟩, HO, Hp⟩
  isplitl [Hh]; · iexact Hh
  isplitr [Hp HO]
  · isplitr; · iexists κ; iexact HR
    isplitl [Hat]; · iexact Hat
    isplitl [Hc]; · iexact Hc
    isplitl [Ht₃]; · iexact Ht₃
    iapply (fresh_made c)
    isplitl [Ho]; · iexact Ho
    isplitl [Ht] <;> iassumption
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c)) ∗ levAts L lv)
      ⊢ (|={Set.univ}=> bigSep Finset.univ (first m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ kept c)
      ⊢ (iprop(bundle m c ∗ (semVal (barCell c) 0 ∗ kept c)) : sProp 𝕄) := by
    rw [show unscopedBufs c (fun b => m ((c : Thread nD τ).loc b)) = StableHlo.held (c : Thread nD τ) (Pipeline.ucRefs τ sig) (V0 m c)
      from Pipeline.unscopedBufs_held c (V0 m c), counters]
    unfold bundle
    iintro ⟨Hh, Hus, HO, Hcr, Hp, HG⟩
    ihave Hc := (credits (F := F) c) $$ Hcr
    isplitr [Hus HG]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep copyCells (fun g => (openTok ER g : sProp 𝕄))
      ⊢ bigSep Finset.univ (fun c : Dev nD => bigSep Finset.univ fun q : Fin 18 => iprop(openTok ER (sCell c q) ∗ openTok ER (rCell c q))) :=
    Entails.of_eq (copies_split _)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c))
      ⊢ (bigSep Finset.univ fun c : Dev nD => iprop(bundle m c ∗ (semVal (barCell c) 0 ∗ kept c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (kept_all (F := F))) $$ HG
  imod (Rounds.fund_launch ER (Rd (part (W2 m))) disjoint_cells (fun g _ h => h) rights) $$ [Hv Hu] with ⟨%κ, -, #Hinv, #Hr, Hat, Hopen, Htok⟩
  · isplitl [Hv]
    · iapply hv $$ Hv
    · iexact Hu
  imodintro
  iapply (bigSep_with_persistent (R := recs (part (W2 m)) κ) (Φ := fun c => iprop(linear c ∗ bundle m c)) fun c _ => first_made m κ c)
  isplitr
  · iapply (recs_made (part (W2 m)) κ)
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (rights_dealt (F := F))) $$ Htok
  · iexact HB

/-! ## The run -/

/-- The program's three steps on device `c`. -/
abbrev steps (c : Dev nD) := segs m 𝒱₀ L lv (fun _ => carried m) () (pdats m) (reg0 m) (reg1 m) c

set_option backward.isDefEq.respectTransparency.types false in
/-- From any memory with every counter at zero, every execution ends; the arguments are as they were, the result's array holds
    what the last step leaves, and every counter is back at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v22) = answer (W2 m) c) ∧ r.2.sem = fun _ => 0) := by
  refine Pipeline.θ_run_regions_kit_dev_sems (pcfgs (F := F)) adm (pdats m) () cellOf_inj EP defs₀ 𝒱₀ L lv m ρ main (steps m)
    (fun c Q => by
      rewrite [main_chain c, Pipeline.Seg.run_eq_chain,
        show (steps m c).map Pipeline.Seg.prog = [
          StableHlo.seq (hostOps0 c),
          Prog.lift (.customCall (Pipeline.entry 0) ()),
          Prog.lift (.customCall (Pipeline.entry 1) ()) ] from rfl]
      dsimp (config := { failIfUnchanged := false }) only
      exact .rfl)
    (fun c => by simp only [steps, segs, Pipeline.Seg.pipes_host, Pipeline.Seg.pipes_region, Pipeline.Seg.pipes_nil]; decide)
    O₀ L_of_ne kept u₀
    (by
      unfold u₀
      iintro Hu
      ihave H := (ownU_pair _ _) $$ Hu
      icases H with ⟨HP, HX⟩
      imodintro
      isplitl [HP]; · iexact HP
      rw [kept_all]; iexact HX)
    (T₀ := first m)
    (Tₙ := fun c => iprop(StableHlo.held (c : Thread nD τ) (Pipeline.ucRefs τ sig) (W3 m c) ∗ semVal (barCell c) 0))
    (hch := fun c => ⟨.rfl, pre0 m c, (post0 m c).trans (pre1 m c), (post1 m c).trans (by
      unfold spent
      iintro ⟨Hh, Hb, HO⟩
      isplitr [HO]
      · isplitl [Hh] <;> iassumption
      iexact HO)⟩)
    (hinit := init m ρ)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_v22) = answer (W2 m) c) ∧ s.sem (barCell c) = 0)
    (hfin := fun c s' => ?_)
    (hQ := fun s h hs => ⟨fun c => (h c).1, sem_eq_zero hs fun c sm hsm => by
      obtain rfl := unscoped_eq sm hsm
      exact (h c).2⟩)
  unfold StableHlo.held
  iintro ⟨⟨Hh, Hb⟩, HSI⟩
  icombine HSI Hb gives %hb
  ihave Hr := (pointsTo_read_all (Pipeline.ucRefs τ sig) (fun b => ((c : Thread nD τ).1, b)) (W3 m c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (W3_main_arg0 m c),
      (h (Proc.devRef .tc main_arg1) (Finset.mem_filter.mpr ⟨StableHlo.devRef_mem_tcRefs main_arg1, by decide⟩)).trans (W3_main_arg1 m c),
      (h (Proc.devRef .tc main_v22) (Finset.mem_filter.mpr ⟨StableHlo.devRef_mem_tcRefs main_v22, by decide⟩)).trans (W3_self m c)⟩, by simpa using hb⟩
  iexact HSI

end Cert.KernelIdeal.AllReduce
-- ==== Proof.KernelIdeal.Values.lean ====
/- What the program computes over exact values: each device's slice, its partial product, and their sum over the devices. -/
module

public import proofs.«01_k».proof.Proof.KernelIdeal.Program
public import Idealize.ShloMosaic.Lib.Pipeline.ValueKit
public import Idealize.ShloMosaic.Lib.StackMember
public import Idealize.ShloMosaic.Lib.MatmulPlain
public import Idealize.ShloMosaic.Lib.DynamicIndex
public import Idealize.ShloMosaic.Lib.StableHlo.RunClose
public import Idealize.ShloMosaic.PureOps.Ideal.Laws

@[expose] public section

set_option maxRecDepth 16384

noncomputable section

namespace Cert.KernelIdeal.AllReduce

open Idealize.ShloMosaic Idealize.ShloMosaic.TcCoe
open Idealize.SL.Sem
open Idealize.ShloMosaic.Pipeline (Dat)
open Cert.KernelIdeal Cert.KernelIdeal.Gen

/-! ## The sum over the devices -/

/-- Three crossings, one of each axis, meet every device once. -/
theorem crossings : ∀ (g : Fin 3) (o : Dev nD),
    ([o, pr (![0, 1, 2] g) o, pr (![1, 2, 0] g) o, pr (![0, 1, 2] g) (pr (![1, 2, 0] g) o),
      pr (![2, 0, 1] g) o, pr (![0, 1, 2] g) (pr (![2, 0, 1] g) o), pr (![1, 2, 0] g) (pr (![2, 0, 1] g) o),
      pr (![0, 1, 2] g) (pr (![1, 2, 0] g) (pr (![2, 0, 1] g) o))] : List (Dev nD)).Perm (List.finRange 8) := by
  decide +kernel

theorem group_steps (i : ℕ) : ∃ g : Fin 3, axisOf i 0 = ![0, 1, 2] g ∧ axisOf i 1 = ![1, 2, 0] g ∧ axisOf i 2 = ![2, 0, 1] g := by
  unfold axisOf
  split_ifs
  exacts [⟨0, rfl, rfl, rfl⟩, ⟨1, rfl, rfl, rfl⟩, ⟨2, rfl, rfl, rfl⟩]

/-- The result at a row and column is the sum of all devices' partial products there. -/
theorem Out_eq (P : Dev nD → ℕ → ℕ → Elt Ideal .f32) (i j : ℕ) : (Out P i j : EReal) = ∑ d : Dev nD, (P d i j : EReal) := by
  obtain ⟨g, h0, h1, h2⟩ := group_steps i
  have hp := ((crossings g (own i)).map fun d => (P d i j : EReal)).sum_eq
  rw [Fin.sum_univ_def]
  refine Eq.trans ?_ hp
  show ((((P _ i j : EReal) + P _ i j) + (P _ i j + P _ i j)) + ((P _ i j + P _ i j) + (P _ i j + P _ i j)) : EReal) = _
  rw [h0, h1, h2]
  simp only [List.map_cons, List.map_nil, List.sum_cons, List.sum_nil]
  abel

/-! ## What the all-reduce is given and leaves -/

theorem whole_0 : ∀ a, win1_0.index t1_0 a = 0 := by decide +kernel
theorem whole_1 : ∀ a, win1_1.index t1_0 a = 0 := by decide +kernel
/-- Where a point's blocks are: its rows are those of its result, its columns' rows those of its result's columns. -/
theorem blocks : ∀ t : Fin cfg0.N, win0_0.index t 0 = win0_2.index t 0 ∧ win0_0.index t 1 = 0
    ∧ win0_1.index t 0 = win0_2.index t 1 ∧ win0_1.index t 1 = 0 := by decide +kernel

section Steps
variable (V : Dev nD → Valuation τ sig (Elt Ideal))

theorem answer_eq (c : Dev nD) (i j : Fin 2048) : answer V c (ix2 i j) = Out (part V) i.val j.val := by
  refine congrFun ((datT V c).arrAt_eq_of_covers 1 (ofRC 2048 (Out (part V)) : Vec Ideal S2048x2048 .f32) (by decide +kernel) fun t hf y => ?_) _
  obtain rfl := fin_N1 t
  blk_simp
  rw [datT_1]
  congr 1
  funext a; apply Fin.ext
  fin_cases a <;> blk_simp <;> simp [whole_1]

theorem brought_eq (c : Dev nD) (x : S2048x2048.Idx) : brought V c x = V c main_v21 x := by
  show V c main_v21 (((cfg1.win 0).blk t1_0).view.emb x) = _
  congr 1
  funext a; apply Fin.ext
  fin_cases a <;> blk_simp <;> simp [whole_0]

theorem part_eq (c : Dev nD) (i j : Fin 2048) : part V c i.val j.val = V c main_v21 (ix2 i j) := by
  unfold part
  rw [dif_pos ⟨i.isLt, j.isLt⟩, brought_eq]
  congr 1
  funext a; apply Fin.ext
  fin_cases a <;> rfl

/-! ## The partial products -/

/-- The slices the product is formed of, as exact numbers. -/
def leftOf (c : Dev nD) : S2048x2048.Idx → EReal := V c main_v15
def rightOf (c : Dev nD) : S2048x2048.Idx → EReal := V c main_v20

theorem payload (x y : Vec Ideal S512x2048 .f32) (a : S512x512.Idx) :
    (k0_pay1 x y a : EReal) = ∑ k : Fin 2048, (x (ix2 (a 0) k) : EReal) * y (ix2 (a 1) k) := by
  unfold k0_pay1
  pointwise

theorem prod_eq (c : Dev nD) (i j : Fin 2048) :
    (prod V c (ix2 i j) : EReal) = (∑ k : Fin 2048, leftOf V c (ix2 i k) * rightOf V c (ix2 j k) : EReal) := by
  refine congrFun ((datM V c).arrAt_eq_of_covers 2
    (fun z : S2048x2048.Idx => (∑ k : Fin 2048, leftOf V c (ix2 (z 0) k) * rightOf V c (ix2 (z 1) k) : EReal)) (by decide +kernel) fun t hf y => ?_) (ix2 i j)
  blk_simp
  rw [datM_2]
  refine (payload (rowsAt V c t) (colsAt V c t) _).trans ?_
  obtain ⟨h00, h01, h10, h11⟩ := blocks t
  refine Finset.sum_congr (M := EReal) rfl fun k _ => congrArg₂ (fun x y : EReal => x * y) ?_ ?_
  · show V c main_v15 (((cfg0.win 0).blk t).view.emb _) = V c main_v15 _
    congr 1
    funext a; apply Fin.ext
    fin_cases a <;> blk_simp <;> simp [h00, h01]
  · show V c main_v20 (((cfg0.win 1).blk t).view.emb _) = V c main_v20 _
    congr 1
    funext a; apply Fin.ext
    fin_cases a <;> blk_simp <;> simp [h10, h11]

/-! ## The slices -/

variable (m : (ℓ : Loc nD τ sig) → Buf (Elt Ideal) ℓ)

/-- Which quarter of its own columns device `c` multiplies. -/
def quarter (c : Dev nD) : Fin 4 := ⟨c.val / 4 % 2 * 2 + c.val % 2, by omega⟩
theorem quarter_lt (q : Fin 4) (k : Fin 2048) : q.val * 2048 + k.val < 8192 := by omega

/-- Its first column, as the program computes it from the device's number. -/
def start (c : Dev nD) : IVec S_ 32 :=
  muli (addi (muli (Host.remui (Host.divui (constantI S_ 32 (Dev.word c)) (constantI S_ 32 4#32)) (constantI S_ 32 2#32)) (constantI S_ 32 2#32))
    (Host.remui (Host.divui (constantI S_ 32 (Dev.word c)) (constantI S_ 32 1#32)) (constantI S_ 32 2#32))) (constantI S_ 32 2048#32)

theorem start_val (c : Dev nD) (x : S_.Idx) :
    (select (cmpi .slt (start c) (constantI S_ 32 0#32)) (addi (start c) (constantI S_ 32 8192#32)) (start c) x).toInt
      = ((quarter c).val * 2048 : ℕ) := by
  obtain rfl : x = Shape.Idx.first h_S_ := funext fun a => a.elim0
  revert c
  decide +kernel

theorem quarter_slices (q : Fin 4) : S2048x8192.Slices ![0, q.val * 2048] S2048x2048 := by revert q; decide

/-- Slicing from there on is reading the quarter. -/
theorem slice_eq (x : Vec Ideal S2048x8192 .f32) (c : Dev nD) (i k : Fin 2048) (st : Fin 2 → ℤ)
    (h0 : st 0 = 0) (h1 : st 1 = ((quarter c).val * 2048 : ℕ)) :
    Host.dynamicSlice S2048x2048 x st sliceFits_S2048x8192_S2048x2048 (ix2 i k) = x (ix2 i ⟨(quarter c).val * 2048 + k.val, quarter_lt _ k⟩) := by
  rw [Host.dynamicSlice_eq_extractStridedSlice _ _ _ ![0, (quarter c).val * 2048] _ (quarter_slices _) (by
    intro a
    fin_cases a
    · exact h0
    · exact h1)]
  pointwise

theorem left_eq (c : Dev nD) (i k : Fin 2048) :
    leftOf (V1 m) c (ix2 i k) = m ((c : Thread nD τ).loc main_arg0) (ix2 i ⟨(quarter c).val * 2048 + k.val, quarter_lt _ k⟩) := by
  unfold leftOf V1
  after_results_simp_entrywise
  exact slice_eq _ c i k _ rfl (start_val c _)

theorem right_eq (c : Dev nD) (i k : Fin 2048) :
    rightOf (V1 m) c (ix2 i k) = m ((c : Thread nD τ).loc main_arg1) (ix2 i ⟨(quarter c).val * 2048 + k.val, quarter_lt _ k⟩) := by
  unfold rightOf V1
  after_results_simp_entrywise
  exact slice_eq _ c i k _ rfl (start_val c _)

/-- Every device's answer: the sum, over the devices, of their partial products. -/
theorem answer_sum (c : Dev nD) (i j : Fin 2048) : (answer (W2 m) c (ix2 i j) : EReal)
    = ∑ d : Dev nD, ∑ k : Fin 2048, leftOf (V1 m) d (ix2 i k) * rightOf (V1 m) d (ix2 j k) := by
  rw [answer_eq]
  refine (Out_eq (part (W2 m)) i.val j.val).trans (Finset.sum_congr rfl fun d _ => ?_)
  rw [part_eq, W2_self]
  exact prod_eq (V1 m) d i j

end Steps

end Cert.KernelIdeal.AllReduce
-- ==== Proof.Tie.lean ====
/- The two values are equal: the sum over the devices of their slices' products is the product of the whole arrays. -/
module

public import proofs.«01_k».proof.Proof.KernelIdeal.Values
public import proofs.«01_k».proof.Proof.Gen.ReferenceIdeal.Run
public import Idealize.ShloMosaic.Lib.Layout

@[expose] public section

set_option maxRecDepth 16384

noncomputable section

namespace Cert.Proof.Tie

open Idealize.ShloMosaic Idealize.ShloMosaic.TcCoe
open Idealize.SL.Sem
open Cert.KernelIdeal Cert.KernelIdeal.Gen Cert.KernelIdeal.AllReduce

/-- The whole arrays. -/
abbrev SW : Shape := ⟨2, ![2048, 16384]⟩

/-- Which of the eight runs of 2048 columns of the whole arrays device `d` multiplies. -/
def eighth (d : Dev nD) : Fin 8 := ⟨d.val / 2 % 2 * 4 + (quarter d).val, by have := (quarter d).isLt; omega⟩

theorem eighth_bijective : Function.Bijective eighth := by decide +kernel

/-- Its inverse pairs each run with one device. -/
def devices : Dev nD ≃ Fin 8 := Equiv.ofBijective eighth eighth_bijective

theorem col_lt (b : Fin 8) (k : Fin 2048) : b.val * 2048 + k.val < 16384 := by omega

theorem sum_runs (g : Fin 16384 → EReal) :
    ∑ d : Dev nD, ∑ k : Fin 2048, g ⟨(eighth d).val * 2048 + k.val, col_lt _ k⟩ = ∑ l : Fin 16384, g l := by
  refine (Equiv.sum_comp devices fun b => ∑ k : Fin 2048, g ⟨b.val * 2048 + k.val, col_lt b k⟩).trans ?_
  rw [← Fintype.sum_prod_type',
    ← Equiv.sum_comp (finProdFinEquiv (m := 8) (n := 2048)) g]
  refine Finset.sum_congr rfl fun p _ => congrArg g (Fin.ext ?_)
  show p.1.val * 2048 + p.2.val = p.2.val + 2048 * p.1.val
  omega

/-- A device's quarter of its own part is its eighth of the whole. -/
theorem placed (X : SW.Idx → EReal) (d : Dev nD) (i k : Fin 2048) :
    (Layout.blockN ⟨2, ![2048, 8192]⟩ ⟨2, ![2048, 16384]⟩ (Layout.meshBlock [2, 2, 2] ![[], [1]] d) X) (ix2 i ⟨(quarter d).val * 2048 + k.val, quarter_lt _ k⟩)
      = X (ix2 i ⟨(eighth d).val * 2048 + k.val, col_lt _ k⟩) := by
  rw [Layout.blockN_apply]
  congr 1
  funext a
  apply Fin.ext
  rw [Layout.TilesN.idx_val]
  fin_cases a
  · show 0 * 2048 + i.val = i.val
    omega
  · show (d.val / 2 % 2 * 1 + 0) * 8192 + ((quarter d).val * 2048 + k.val) = (d.val / 2 % 2 * 4 + (quarter d).val) * 2048 + k.val
    omega

/-- The reference's product at a row and column. -/
theorem reference_apply (X Y : SW.Idx → EReal) (i j : Fin 2048) :
    (Host.dotGeneral (F := Ideal) (φ₁ := .f32) (φ₂ := .f32) Cert.ReferenceIdeal.dot_S2048x16384_S16384x2048_S2048x2048_1_0_0_1_n_n none X
      (transpose Cert.ReferenceIdeal.S16384x2048 [1, 0] Y Cert.ReferenceIdeal.Gen.facts.toFacts₀.transposes_S2048x16384_S16384x2048_1_0) (ix2 i j) : EReal)
      = ∑ l : Fin 16384, X (ix2 i l) * Y (ix2 j l) := by
  pointwise

/-- From each device's part of the whole arrays, every device's answer is the reference's product. -/
theorem tie (m : (ℓ : Loc nD τ sig) → Buf (Elt Ideal) ℓ) (X Y : SW.Idx → EReal)
    (hX : ∀ d : Dev nD, m ((d.tc : Thread nD τ).loc main_arg0)
      = Layout.blockN ⟨2, ![2048, 8192]⟩ ⟨2, ![2048, 16384]⟩ (Layout.meshBlock [2, 2, 2] ![[], [1]] d) X)
    (hY : ∀ d : Dev nD, m ((d.tc : Thread nD τ).loc main_arg1)
      = Layout.blockN ⟨2, ![2048, 8192]⟩ ⟨2, ![2048, 16384]⟩ (Layout.meshBlock [2, 2, 2] ![[], [1]] d) Y)
    (c : Dev nD) : answer (W2 m) c = (Host.dotGeneral (F := Ideal) (φ₁ := .f32) (φ₂ := .f32)
      Cert.ReferenceIdeal.dot_S2048x16384_S16384x2048_S2048x2048_1_0_0_1_n_n none X
      (transpose Cert.ReferenceIdeal.S16384x2048 [1, 0] Y Cert.ReferenceIdeal.Gen.facts.toFacts₀.transposes_S2048x16384_S16384x2048_1_0) : FVec Ideal S2048x2048 .f32) := by
  funext x
  obtain ⟨i, j, rfl⟩ : ∃ i j, x = (ix2 i j : S2048x2048.Idx) := ⟨x 0, x 1, ValueIdx.eq_ix2 x⟩
  refine (answer_sum m c i j).trans (Eq.trans ?_ (reference_apply X Y i j).symm)
  rw [← sum_runs fun l => X (ix2 i l) * Y (ix2 j l)]
  refine Finset.sum_congr (M := EReal) rfl fun d _ => Finset.sum_congr (M := EReal) rfl fun k _ => ?_
  rw [left_eq, right_eq]
  exact congrArg₂ (fun x y : EReal => x * y) ((congrFun (hX d) _).trans (placed X d i k)) ((congrFun (hY d) _).trans (placed Y d j k))

end Cert.Proof.Tie
-- ==== Proof.lean ====
/- The claims, from the runs of the two programs and of the reference and the equation between their values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Tie
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, keeps its arguments and leaves every counter at zero. -/
theorem frame_p : Cert.quiescent_Kernel := fun m ρ _ =>
  (θ_run Cert.Kernel.defs _ _).mono (fun _ h => ⟨fun c => ⟨(h.1 c).1, (h.1 c).2.1⟩, h.2⟩) (Cert.Kernel.AllReduce.run_main (F := Bits) m ρ)

/-- So does it over exact values. -/
theorem frame_pi : Cert.quiescent_KernelIdeal := fun m ρ _ =>
  (θ_run Cert.KernelIdeal.defs _ _).mono (fun _ h => ⟨fun c => ⟨(h.1 c).1, (h.1 c).2.1⟩, h.2⟩)
    (Cert.KernelIdeal.AllReduce.run_main (F := Ideal) m ρ)

/-- So does the reference, which has no counters. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over exact values every device ends with the reference's product. -/
theorem value : Cert.algebraic_KernelIdeal_ReferenceIdeal := fun m ρ m' ρ' _ hag =>
  ⟨_, (θ_run Cert.KernelIdeal.defs _ _).mono
      (fun _ h c => ⟨(h.1 c).2.2.trans (Tie.tie m _ _ (fun d => (hag d).1) (fun d => (hag d).2) c), (h.1 c).1, (h.1 c).2.1⟩)
      (Cert.KernelIdeal.AllReduce.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_p, frame_pi, frame_ri, trivial, value⟩

end Cert.Proof

end
